-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x3584 : Shape := ⟨3, ![64, 1, 3584]⟩
abbrev S3584x7168 : Shape := ⟨2, ![3584, 7168]⟩
abbrev S28x56 : Shape := ⟨2, ![28, 56]⟩
abbrev S64x3584 : Shape := ⟨2, ![64, 3584]⟩
abbrev S64x7168 : Shape := ⟨2, ![64, 7168]⟩
abbrev S64x28 : Shape := ⟨2, ![64, 28]⟩
abbrev S3584x512 : Shape := ⟨2, ![3584, 512]⟩
abbrev S64x512 : Shape := ⟨2, ![64, 512]⟩
abbrev S64x128 : Shape := ⟨2, ![64, 128]⟩
abbrev S64 : Shape := ⟨1, ![64]⟩
abbrev S64x1 : Shape := ⟨2, ![64, 1]⟩
abbrev S64x256 : Shape := ⟨2, ![64, 256]⟩
abbrev S128x256 : Shape := ⟨2, ![128, 256]⟩
abbrev S1x1 : Shape := ⟨2, ![1, 1]⟩

abbrev nBuf : Space → Nat
  | .hbm => 7
  | .vmem => 8
  | .smem => 1
  | _ => 0

abbrev bufTy : (tb : Table) → Fin (tcTables nBuf tb) → BufTy
  | .hbm, ⟨0, _⟩ => ⟨S64x1x3584, .bf16⟩
  | .hbm, ⟨1, _⟩ => ⟨S3584x7168, .fp8e4m3⟩
  | .hbm, ⟨2, _⟩ => ⟨S28x56, .f32⟩
  | .hbm, ⟨3, _⟩ => ⟨S64x3584, .bf16⟩
  | .hbm, ⟨4, _⟩ => ⟨S64x7168, .bf16⟩
  | .hbm, ⟨5, _⟩ => ⟨S64x3584, .fp8e4m3⟩
  | .hbm, ⟨6, _⟩ => ⟨S64x28, .f32⟩
  | .local _ .vmem, ⟨0, _⟩ => ⟨S64x3584, .bf16⟩
  | .local _ .vmem, ⟨1, _⟩ => ⟨S3584x512, .fp8e4m3⟩
  | .local _ .vmem, ⟨2, _⟩ => ⟨S3584x512, .fp8e4m3⟩
  | .local _ .vmem, ⟨3, _⟩ => ⟨S64x512, .bf16⟩
  | .local _ .vmem, ⟨4, _⟩ => ⟨S64x512, .bf16⟩
  | .local _ .vmem, ⟨5, _⟩ => ⟨S64x3584, .fp8e4m3⟩
  | .local _ .vmem, ⟨6, _⟩ => ⟨S64x28, .f32⟩
  | .local _ .vmem, ⟨7, _⟩ => ⟨S64x3584, .f32⟩
  | .local _ .smem, ⟨0, _⟩ => ⟨S28x56, .f32⟩
  | _, _ => ⟨S64x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![14], ![false]⟩

def k0_off1 (i : grid0.Coords) (c0_i32_7 : BitVec 32) (c0_i32_8 : BitVec 32) : Fin 2 → Nat :=
  let c0_9 : Index := 0#32
  let arg0 : BitVec 32 := BitVec.ofNat 32 (i 0).val
  let c4_i32 : BitVec 32 := 4#32
  let v9 : BitVec 32 := Scalar.muli arg0 c4_i32
  let v10 : BitVec 32 := Scalar.addi v9 c0_i32_7
  let v11 : BitVec 32 := Scalar.addi v10 c0_i32_8
  let v12 : Index := Scalar.indexCast v11
  ![0, v12.toNat]
def k0_off2 (i : grid0.Coords) (c0_i32_20 : BitVec 32) (c0_i32_21 : BitVec 32) : Fin 2 → Nat :=
  let c1 : Index := 1#32
  let arg0 : BitVec 32 := BitVec.ofNat 32 (i 0).val
  let c4_i32_19 : BitVec 32 := 4#32
  let v34 : BitVec 32 := Scalar.muli arg0 c4_i32_19
  let v35 : BitVec 32 := Scalar.addi v34 c0_i32_20
  let v36 : BitVec 32 := Scalar.addi v35 c0_i32_21
  let v37 : Index := Scalar.indexCast v36
  ![1, v37.toNat]
def k0_off3 (i : grid0.Coords) (c0_i32_33 : BitVec 32) (c0_i32_34 : BitVec 32) : Fin 2 → Nat :=
  let c2 : Index := 2#32
  let arg0 : BitVec 32 := BitVec.ofNat 32 (i 0).val
  let c4_i32_32 : BitVec 32 := 4#32
  let v59 : BitVec 32 := Scalar.muli arg0 c4_i32_32
  let v60 : BitVec 32 := Scalar.addi v59 c0_i32_33
  let v61 : BitVec 32 := Scalar.addi v60 c0_i32_34
  let v62 : Index := Scalar.indexCast v61
  ![2, v62.toNat]
def k0_off4 (i : grid0.Coords) (c0_i32_46 : BitVec 32) (c0_i32_47 : BitVec 32) : Fin 2 → Nat :=
  let c3 : Index := 3#32
  let arg0 : BitVec 32 := BitVec.ofNat 32 (i 0).val
  let c4_i32_45 : BitVec 32 := 4#32
  let v84 : BitVec 32 := Scalar.muli arg0 c4_i32_45
  let v85 : BitVec 32 := Scalar.addi v84 c0_i32_46
  let v86 : BitVec 32 := Scalar.addi v85 c0_i32_47
  let v87 : Index := Scalar.indexCast v86
  ![3, v87.toNat]
def k0_off5 (i : grid0.Coords) (c0_i32_59 : BitVec 32) (c0_i32_60 : BitVec 32) : Fin 2 → Nat :=
  let c4 : Index := 4#32
  let arg0 : BitVec 32 := BitVec.ofNat 32 (i 0).val
  let c4_i32_58 : BitVec 32 := 4#32
  let v109 : BitVec 32 := Scalar.muli arg0 c4_i32_58
  let v110 : BitVec 32 := Scalar.addi v109 c0_i32_59
  let v111 : BitVec 32 := Scalar.addi v110 c0_i32_60
  let v112 : Index := Scalar.indexCast v111
  ![4, v112.toNat]
def k0_off6 (i : grid0.Coords) (c0_i32_72 : BitVec 32) (c0_i32_73 : BitVec 32) : Fin 2 → Nat :=
  let c5 : Index := 5#32
  let arg0 : BitVec 32 := BitVec.ofNat 32 (i 0).val
  let c4_i32_71 : BitVec 32 := 4#32
  let v134 : BitVec 32 := Scalar.muli arg0 c4_i32_71
  let v135 : BitVec 32 := Scalar.addi v134 c0_i32_72
  let v136 : BitVec 32 := Scalar.addi v135 c0_i32_73
  let v137 : Index := Scalar.indexCast v136
  ![5, v137.toNat]
def k0_off7 (i : grid0.Coords) (c0_i32_85 : BitVec 32) (c0_i32_86 : BitVec 32) : Fin 2 → Nat :=
  let c6 : Index := 6#32
  let arg0 : BitVec 32 := BitVec.ofNat 32 (i 0).val
  let c4_i32_84 : BitVec 32 := 4#32
  let v159 : BitVec 32 := Scalar.muli arg0 c4_i32_84
  let v160 : BitVec 32 := Scalar.addi v159 c0_i32_85
  let v161 : BitVec 32 := Scalar.addi v160 c0_i32_86
  let v162 : Index := Scalar.indexCast v161
  ![6, v162.toNat]
def k0_off8 (i : grid0.Coords) (c0_i32_98 : BitVec 32) (c0_i32_99 : BitVec 32) : Fin 2 → Nat :=
  let c7 : Index := 7#32
  let arg0 : BitVec 32 := BitVec.ofNat 32 (i 0).val
  let c4_i32_97 : BitVec 32 := 4#32
  let v184 : BitVec 32 := Scalar.muli arg0 c4_i32_97
  let v185 : BitVec 32 := Scalar.addi v184 c0_i32_98
  let v186 : BitVec 32 := Scalar.addi v185 c0_i32_99
  let v187 : Index := Scalar.indexCast v186
  ![7, v187.toNat]
def k0_off9 (i : grid0.Coords) (c0_i32_111 : BitVec 32) (c0_i32_112 : BitVec 32) : Fin 2 → Nat :=
  let c8 : Index := 8#32
  let arg0 : BitVec 32 := BitVec.ofNat 32 (i 0).val
  let c4_i32_110 : BitVec 32 := 4#32
  let v209 : BitVec 32 := Scalar.muli arg0 c4_i32_110
  let v210 : BitVec 32 := Scalar.addi v209 c0_i32_111
  let v211 : BitVec 32 := Scalar.addi v210 c0_i32_112
  let v212 : Index := Scalar.indexCast v211
  ![8, v212.toNat]
def k0_off10 (i : grid0.Coords) (c0_i32_124 : BitVec 32) (c0_i32_125 : BitVec 32) : Fin 2 → Nat :=
  let c9 : Index := 9#32
  let arg0 : BitVec 32 := BitVec.ofNat 32 (i 0).val
  let c4_i32_123 : BitVec 32 := 4#32
  let v234 : BitVec 32 := Scalar.muli arg0 c4_i32_123
  let v235 : BitVec 32 := Scalar.addi v234 c0_i32_124
  let v236 : BitVec 32 := Scalar.addi v235 c0_i32_125
  let v237 : Index := Scalar.indexCast v236
  ![9, v237.toNat]
def k0_off11 (i : grid0.Coords) (c0_i32_137 : BitVec 32) (c0_i32_138 : BitVec 32) : Fin 2 → Nat :=
  let c10 : Index := 10#32
  let arg0 : BitVec 32 := BitVec.ofNat 32 (i 0).val
  let c4_i32_136 : BitVec 32 := 4#32
  let v259 : BitVec 32 := Scalar.muli arg0 c4_i32_136
  let v260 : BitVec 32 := Scalar.addi v259 c0_i32_137
  let v261 : BitVec 32 := Scalar.addi v260 c0_i32_138
  let v262 : Index := Scalar.indexCast v261
  ![10, v262.toNat]
def k0_off12 (i : grid0.Coords) (c0_i32_150 : BitVec 32) (c0_i32_151 : BitVec 32) : Fin 2 → Nat :=
  let c11 : Index := 11#32
  let arg0 : BitVec 32 := BitVec.ofNat 32 (i 0).val
  let c4_i32_149 : BitVec 32 := 4#32
  let v284 : BitVec 32 := Scalar.muli arg0 c4_i32_149
  let v285 : BitVec 32 := Scalar.addi v284 c0_i32_150
  let v286 : BitVec 32 := Scalar.addi v285 c0_i32_151
  let v287 : Index := Scalar.indexCast v286
  ![11, v287.toNat]
def k0_off13 (i : grid0.Coords) (c0_i32_163 : BitVec 32) (c0_i32_164 : BitVec 32) : Fin 2 → Nat :=
  let c12 : Index := 12#32
  let arg0 : BitVec 32 := BitVec.ofNat 32 (i 0).val
  let c4_i32_162 : BitVec 32 := 4#32
  let v309 : BitVec 32 := Scalar.muli arg0 c4_i32_162
  let v310 : BitVec 32 := Scalar.addi v309 c0_i32_163
  let v311 : BitVec 32 := Scalar.addi v310 c0_i32_164
  let v312 : Index := Scalar.indexCast v311
  ![12, v312.toNat]
def k0_off14 (i : grid0.Coords) (c0_i32_176 : BitVec 32) (c0_i32_177 : BitVec 32) : Fin 2 → Nat :=
  let c13 : Index := 13#32
  let arg0 : BitVec 32 := BitVec.ofNat 32 (i 0).val
  let c4_i32_175 : BitVec 32 := 4#32
  let v334 : BitVec 32 := Scalar.muli arg0 c4_i32_175
  let v335 : BitVec 32 := Scalar.addi v334 c0_i32_176
  let v336 : BitVec 32 := Scalar.addi v335 c0_i32_177
  let v337 : Index := Scalar.indexCast v336
  ![13, v337.toNat]
def k0_off15 (i : grid0.Coords) (c0_i32_189 : BitVec 32) (c0_i32_190 : BitVec 32) : Fin 2 → Nat :=
  let c14 : Index := 14#32
  let arg0 : BitVec 32 := BitVec.ofNat 32 (i 0).val
  let c4_i32_188 : BitVec 32 := 4#32
  let v359 : BitVec 32 := Scalar.muli arg0 c4_i32_188
  let v360 : BitVec 32 := Scalar.addi v359 c0_i32_189
  let v361 : BitVec 32 := Scalar.addi v360 c0_i32_190
  let v362 : Index := Scalar.indexCast v361
  ![14, v362.toNat]
def k0_off16 (i : grid0.Coords) (c0_i32_202 : BitVec 32) (c0_i32_203 : BitVec 32) : Fin 2 → Nat :=
  let c15 : Index := 15#32
  let arg0 : BitVec 32 := BitVec.ofNat 32 (i 0).val
  let c4_i32_201 : BitVec 32 := 4#32
  let v384 : BitVec 32 := Scalar.muli arg0 c4_i32_201
  let v385 : BitVec 32 := Scalar.addi v384 c0_i32_202
  let v386 : BitVec 32 := Scalar.addi v385 c0_i32_203
  let v387 : Index := Scalar.indexCast v386
  ![15, v387.toNat]
def k0_off17 (i : grid0.Coords) (c0_i32_215 : BitVec 32) (c0_i32_216 : BitVec 32) : Fin 2 → Nat :=
  let c16 : Index := 16#32
  let arg0 : BitVec 32 := BitVec.ofNat 32 (i 0).val
  let c4_i32_214 : BitVec 32 := 4#32
  let v409 : BitVec 32 := Scalar.muli arg0 c4_i32_214
  let v410 : BitVec 32 := Scalar.addi v409 c0_i32_215
  let v411 : BitVec 32 := Scalar.addi v410 c0_i32_216
  let v412 : Index := Scalar.indexCast v411
  ![16, v412.toNat]
def k0_off18 (i : grid0.Coords) (c0_i32_228 : BitVec 32) (c0_i32_229 : BitVec 32) : Fin 2 → Nat :=
  let c17 : Index := 17#32
  let arg0 : BitVec 32 := BitVec.ofNat 32 (i 0).val
  let c4_i32_227 : BitVec 32 := 4#32
  let v434 : BitVec 32 := Scalar.muli arg0 c4_i32_227
  let v435 : BitVec 32 := Scalar.addi v434 c0_i32_228
  let v436 : BitVec 32 := Scalar.addi v435 c0_i32_229
  let v437 : Index := Scalar.indexCast v436
  ![17, v437.toNat]
def k0_off19 (i : grid0.Coords) (c0_i32_241 : BitVec 32) (c0_i32_242 : BitVec 32) : Fin 2 → Nat :=
  let c18 : Index := 18#32
  let arg0 : BitVec 32 := BitVec.ofNat 32 (i 0).val
  let c4_i32_240 : BitVec 32 := 4#32
  let v459 : BitVec 32 := Scalar.muli arg0 c4_i32_240
  let v460 : BitVec 32 := Scalar.addi v459 c0_i32_241
  let v461 : BitVec 32 := Scalar.addi v460 c0_i32_242
  let v462 : Index := Scalar.indexCast v461
  ![18, v462.toNat]
def k0_off20 (i : grid0.Coords) (c0_i32_254 : BitVec 32) (c0_i32_255 : BitVec 32) : Fin 2 → Nat :=
  let c19 : Index := 19#32
  let arg0 : BitVec 32 := BitVec.ofNat 32 (i 0).val
  let c4_i32_253 : BitVec 32 := 4#32
  let v484 : BitVec 32 := Scalar.muli arg0 c4_i32_253
  let v485 : BitVec 32 := Scalar.addi v484 c0_i32_254
  let v486 : BitVec 32 := Scalar.addi v485 c0_i32_255
  let v487 : Index := Scalar.indexCast v486
  ![19, v487.toNat]
def k0_off21 (i : grid0.Coords) (c0_i32_267 : BitVec 32) (c0_i32_268 : BitVec 32) : Fin 2 → Nat :=
  let c20 : Index := 20#32
  let arg0 : BitVec 32 := BitVec.ofNat 32 (i 0).val
  let c4_i32_266 : BitVec 32 := 4#32
  let v509 : BitVec 32 := Scalar.muli arg0 c4_i32_266
  let v510 : BitVec 32 := Scalar.addi v509 c0_i32_267
  let v511 : BitVec 32 := Scalar.addi v510 c0_i32_268
  let v512 : Index := Scalar.indexCast v511
  ![20, v512.toNat]
def k0_off22 (i : grid0.Coords) (c0_i32_280 : BitVec 32) (c0_i32_281 : BitVec 32) : Fin 2 → Nat :=
  let c21 : Index := 21#32
  let arg0 : BitVec 32 := BitVec.ofNat 32 (i 0).val
  let c4_i32_279 : BitVec 32 := 4#32
  let v534 : BitVec 32 := Scalar.muli arg0 c4_i32_279
  let v535 : BitVec 32 := Scalar.addi v534 c0_i32_280
  let v536 : BitVec 32 := Scalar.addi v535 c0_i32_281
  let v537 : Index := Scalar.indexCast v536
  ![21, v537.toNat]
def k0_off23 (i : grid0.Coords) (c0_i32_293 : BitVec 32) (c0_i32_294 : BitVec 32) : Fin 2 → Nat :=
  let c22 : Index := 22#32
  let arg0 : BitVec 32 := BitVec.ofNat 32 (i 0).val
  let c4_i32_292 : BitVec 32 := 4#32
  let v559 : BitVec 32 := Scalar.muli arg0 c4_i32_292
  let v560 : BitVec 32 := Scalar.addi v559 c0_i32_293
  let v561 : BitVec 32 := Scalar.addi v560 c0_i32_294
  let v562 : Index := Scalar.indexCast v561
  ![22, v562.toNat]
def k0_off24 (i : grid0.Coords) (c0_i32_306 : BitVec 32) (c0_i32_307 : BitVec 32) : Fin 2 → Nat :=
  let c23 : Index := 23#32
  let arg0 : BitVec 32 := BitVec.ofNat 32 (i 0).val
  let c4_i32_305 : BitVec 32 := 4#32
  let v584 : BitVec 32 := Scalar.muli arg0 c4_i32_305
  let v585 : BitVec 32 := Scalar.addi v584 c0_i32_306
  let v586 : BitVec 32 := Scalar.addi v585 c0_i32_307
  let v587 : Index := Scalar.indexCast v586
  ![23, v587.toNat]
def k0_off25 (i : grid0.Coords) (c0_i32_319 : BitVec 32) (c0_i32_320 : BitVec 32) : Fin 2 → Nat :=
  let c24 : Index := 24#32
  let arg0 : BitVec 32 := BitVec.ofNat 32 (i 0).val
  let c4_i32_318 : BitVec 32 := 4#32
  let v609 : BitVec 32 := Scalar.muli arg0 c4_i32_318
  let v610 : BitVec 32 := Scalar.addi v609 c0_i32_319
  let v611 : BitVec 32 := Scalar.addi v610 c0_i32_320
  let v612 : Index := Scalar.indexCast v611
  ![24, v612.toNat]
def k0_off26 (i : grid0.Coords) (c0_i32_332 : BitVec 32) (c0_i32_333 : BitVec 32) : Fin 2 → Nat :=
  let c25 : Index := 25#32
  let arg0 : BitVec 32 := BitVec.ofNat 32 (i 0).val
  let c4_i32_331 : BitVec 32 := 4#32
  let v634 : BitVec 32 := Scalar.muli arg0 c4_i32_331
  let v635 : BitVec 32 := Scalar.addi v634 c0_i32_332
  let v636 : BitVec 32 := Scalar.addi v635 c0_i32_333
  let v637 : Index := Scalar.indexCast v636
  ![25, v637.toNat]
def k0_off27 (i : grid0.Coords) (c0_i32_345 : BitVec 32) (c0_i32_346 : BitVec 32) : Fin 2 → Nat :=
  let c26 : Index := 26#32
  let arg0 : BitVec 32 := BitVec.ofNat 32 (i 0).val
  let c4_i32_344 : BitVec 32 := 4#32
  let v659 : BitVec 32 := Scalar.muli arg0 c4_i32_344
  let v660 : BitVec 32 := Scalar.addi v659 c0_i32_345
  let v661 : BitVec 32 := Scalar.addi v660 c0_i32_346
  let v662 : Index := Scalar.indexCast v661
  ![26, v662.toNat]
def k0_off28 (i : grid0.Coords) (c0_i32_358 : BitVec 32) (c0_i32_359 : BitVec 32) : Fin 2 → Nat :=
  let c27 : Index := 27#32
  let arg0 : BitVec 32 := BitVec.ofNat 32 (i 0).val
  let c4_i32_357 : BitVec 32 := 4#32
  let v684 : BitVec 32 := Scalar.muli arg0 c4_i32_357
  let v685 : BitVec 32 := Scalar.addi v684 c0_i32_358
  let v686 : BitVec 32 := Scalar.addi v685 c0_i32_359
  let v687 : Index := Scalar.indexCast v686
  ![27, v687.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S28x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x28 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S64x1x3584 : Shape := ⟨3, ![64, 1, 3584]⟩
abbrev S3584x7168 : Shape := ⟨2, ![3584, 7168]⟩
abbrev S28x56 : Shape := ⟨2, ![28, 56]⟩
abbrev S64x3584 : Shape := ⟨2, ![64, 3584]⟩
abbrev S64x7168 : Shape := ⟨2, ![64, 7168]⟩
abbrev S64x28 : Shape := ⟨2, ![64, 28]⟩
abbrev S64x28x128 : Shape := ⟨3, ![64, 28, 128]⟩
abbrev S1x1x253 : Shape := ⟨3, ![1, 1, 253]⟩
abbrev S64x28x1 : Shape := ⟨3, ![64, 28, 1]⟩
abbrev S64x28x253 : Shape := ⟨3, ![64, 28, 253]⟩
abbrev S28x128x7168 : Shape := ⟨3, ![28, 128, 7168]⟩
abbrev S28x64x7168 : Shape := ⟨3, ![28, 64, 7168]⟩
abbrev S28x64 : Shape := ⟨2, ![28, 64]⟩
abbrev S28x64x1 : Shape := ⟨3, ![28, 64, 1]⟩
abbrev S28x56x1 : Shape := ⟨3, ![28, 56, 1]⟩
abbrev S28x56x128 : Shape := ⟨3, ![28, 56, 128]⟩
abbrev S28x7168 : Shape := ⟨2, ![28, 7168]⟩
abbrev S28x1x7168 : Shape := ⟨3, ![28, 1, 7168]⟩

abbrev nBuf : Space → Nat
  | .hbm => 7
  | .vmem => 6
  | .smem => 0
  | _ => 0

abbrev bufTy : (tb : Table) → Fin (tcTables nBuf tb) → BufTy
  | .hbm, ⟨0, _⟩ => ⟨S64x1x3584, .bf16⟩
  | .hbm, ⟨1, _⟩ => ⟨S3584x7168, .fp8e4m3⟩
  | .hbm, ⟨2, _⟩ => ⟨S28x56, .f32⟩
  | .hbm, ⟨3, _⟩ => ⟨S64x3584, .bf16⟩
  | .hbm, ⟨4, _⟩ => ⟨S64x7168, .bf16⟩
  | .hbm, ⟨5, _⟩ => ⟨S64x3584, .fp8e4m3⟩
  | .hbm, ⟨6, _⟩ => ⟨S64x28, .f32⟩
  | .local _ .vmem, ⟨0, _⟩ => ⟨S64x3584, .bf16⟩
  | .local _ .vmem, ⟨1, _⟩ => ⟨S3584x7168, .fp8e4m3⟩
  | .local _ .vmem, ⟨2, _⟩ => ⟨S28x56, .f32⟩
  | .local _ .vmem, ⟨3, _⟩ => ⟨S64x7168, .bf16⟩
  | .local _ .vmem, ⟨4, _⟩ => ⟨S64x3584, .fp8e4m3⟩
  | .local _ .vmem, ⟨5, _⟩ => ⟨S64x28, .f32⟩
  | _, _ => ⟨S64x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S64x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S28x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x28 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
/- The quantiser's scale as a value, and the function that the kernel and the reference compute. -/
module

public import Idealize.ShloMosaic.Lib.Pipeline.ValueKit
public import Idealize.ShloMosaic.Lib.Pointwise
public import Idealize.ShloMosaic.PureOps.Ideal.Laws

@[expose] public section

noncomputable section

namespace Cert.Scale

open Idealize.ShloMosaic

/-! ## The powers of two that the float words of exponent field `n` name -/

/-- The `f32` word with exponent field `n` and nothing else set. -/
def word (n : ℕ) : BitVec 32 := IntOp.shli .vector (BitVec.ofNat 32 n) 23#32
/-- The value of that word. -/
def P (n : ℕ) : EReal := Ideal.ofBits .f32 (word n)

theorem word_parts : ∀ n : Fin 256, BitVec.extractLsb' (8 + 23) 1 (word n.val) = 0#1 ∧ (BitVec.extractLsb' 23 8 (word n.val)).toNat = n.val
    ∧ (BitVec.extractLsb' 0 23 (word n.val)).toNat = 0 := by decide +kernel

/-- A word of a normal exponent field is a power of two, -/
theorem P_normal (n : ℕ) (h1 : 1 ≤ n) (h2 : n ≤ 254) : P n = ((2 : ℝ) ^ ((n : ℤ) - 127) : ℝ) := by
  obtain ⟨a, b, c⟩ := word_parts ⟨n, by omega⟩
  simp only at a b c
  unfold P
  generalize word n = w at a b c ⊢
  simp only [Ideal.ofBits, Ideal.ieee, a, b, c]
  rw [if_neg (by omega), if_neg (by omega)]
  congr 1
  have : ((n : ℤ) - 127) = 23 + ((n : ℤ) - 127 - 23) := by ring
  rw [this, zpow_add₀ (by norm_num)]
  norm_num
/-- and the word of the last field is infinity. -/
theorem P_top : P 255 = ⊤ := by
  obtain ⟨a, b, c⟩ := word_parts ⟨255, by omega⟩
  simp only at a b c
  unfold P
  generalize word 255 = w at a b c ⊢
  simp only [Ideal.ofBits, Ideal.ieee, a, b, c]
  norm_num

/-- The powers grow with the field. -/
theorem P_mono {a b : ℕ} (h1 : 1 ≤ a) (hab : a ≤ b) (hb : b ≤ 255) : P a ≤ P b := by
  rcases Nat.lt_or_ge b 255 with h | h
  · rw [P_normal a h1 (by omega), P_normal b (by omega) (by omega)]
    exact EReal.coe_le_coe_iff.2 (zpow_le_zpow_right₀ (by norm_num) (by omega))
  · rw [show b = 255 by omega, P_top]; exact le_top

theorem P_127 : P 127 = 1 := by rw [P_normal 127 (by omega) (by omega)]; norm_num

/-! ## The binary search -/

/-- One step of the search, on the field as a number. -/
def step (v : EReal) (b f : ℕ) : ℕ := if v < P (f + b) then f else f + b

/-- What the search keeps true with `b` fields left to decide. -/
def Inv (v : EReal) (b f : ℕ) : Prop := f + b ≤ 256 ∧ (f = 0 ∨ P f ≤ v) ∧ (f + b = 256 ∨ v < P (f + b))

theorem inv_step (v : EReal) (b f : ℕ) (hb : 1 ≤ b) (h : Inv v (2 * b) f) : Inv v b (step v b f) := by
  obtain ⟨h1, h2, h3⟩ := h
  unfold step
  split
  · next h => exact ⟨by omega, h2, .inr h⟩
  · next h =>
    refine ⟨by omega, .inr (not_lt.1 h), ?_⟩
    rw [show f + b + b = f + 2 * b by ring]; exact h3

/-- The field that the search finds. -/
def field (v : EReal) : ℕ := step v 1 (step v 2 (step v 4 (step v 8 (step v 16 (step v 32 (step v 64 (step v 128 0)))))))

theorem field_inv (v : EReal) : Inv v 1 (field v) := by
  unfold field
  have h : Inv v (2 * 128) 0 := ⟨by omega, .inl rfl, .inl rfl⟩
  exact inv_step v 1 _ (by omega) <| inv_step v 2 _ (by omega) <| inv_step v 4 _ (by omega) <| inv_step v 8 _ (by omega) <|
    inv_step v 16 _ (by omega) <| inv_step v 32 _ (by omega) <| inv_step v 64 _ (by omega) <| inv_step v 128 _ (by omega) h

/-- The exponent of the least power of two above a value of field `f`, and zero for the first field and the last. -/
def ex (f : ℕ) : ℤ := if f = 0 ∨ f = 255 then 0 else (f : ℤ) - 126

/-! ## The search, as the kernel's words -/

theorem addi_ofNat (a b : ℕ) : IntOp.addi (BitVec.ofNat 32 a) (BitVec.ofNat 32 b) = BitVec.ofNat 32 (a + b) :=
  (BitVec.ofNat_add a b).symm

/-- One step of the search on words is one on numbers. -/
theorem step_word (v : EReal) (b f : ℕ) :
    (if v < Ideal.ofBits .f32 (IntOp.shli .vector (IntOp.addi (BitVec.ofNat 32 f) (BitVec.ofNat 32 b)) 23#32) then BitVec.ofNat 32 f
      else IntOp.addi (BitVec.ofNat 32 f) (BitVec.ofNat 32 b)) = BitVec.ofNat 32 (step v b f) := by
  rw [addi_ofNat]
  unfold step P word
  split <;> rfl

/-- The exponent from a field, as the kernel computes it. -/
def expo (w : BitVec 32) : BitVec 32 :=
  Scalar.select (IntOp.ori (IntOp.cmpi .eq w 0#32) (IntOp.cmpi .eq w 255#32)) 0#32 (IntOp.subi w 126#32)

/-- The two words whose product is the power of two of exponent `e`, as the kernel computes them. -/
def loW (e : BitVec 32) : BitVec 32 := IntOp.shli .vector (IntOp.addi (IntOp.shrsi .vector e 1#32) 127#32) 23#32
def hiW (e : BitVec 32) : BitVec 32 := IntOp.shli .vector (IntOp.addi (IntOp.subi e (IntOp.shrsi .vector e 1#32)) 127#32) 23#32
/-- Their exponent fields. -/
def lo (n : ℤ) : ℕ := (127 + n / 2).toNat
def hi (n : ℤ) : ℕ := (127 + (n - n / 2)).toNat
/-- The power of two of exponent `e`, as the kernel computes it. -/
def pw (e : BitVec 32) : EReal := Ideal.ofBits .f32 (loW e) * Ideal.ofBits .f32 (hiW e)

theorem words : ∀ f : Fin 256, loW (expo (BitVec.ofNat 32 f.val)) = word (lo (ex f.val)) ∧ hiW (expo (BitVec.ofNat 32 f.val)) = word (hi (ex f.val))
    ∧ loW (IntOp.subi 0#32 (expo (BitVec.ofNat 32 f.val))) = word (lo (-ex f.val)) ∧ hiW (IntOp.subi 0#32 (expo (BitVec.ofNat 32 f.val))) = word (hi (-ex f.val)) := by
  decide +kernel

theorem ex_range (f : ℕ) (h : f ≤ 255) : -128 ≤ ex f ∧ ex f ≤ 128 := by unfold ex; split <;> omega

theorem P_mul (n : ℤ) (h1 : -128 ≤ n) (h2 : n ≤ 128) : P (lo n) * P (hi n) = ((2 : ℝ) ^ n : ℝ) := by
  rw [P_normal _ (by unfold lo; omega) (by unfold lo; omega), P_normal _ (by unfold hi; omega) (by unfold hi; omega), ← EReal.coe_mul,
    ← zpow_add₀ two_ne_zero]
  congr 2
  unfold lo hi
  omega

/-- The kernel's power of two of the exponent of a field, -/
theorem pw_expo (f : ℕ) (h : f ≤ 255) : pw (expo (BitVec.ofNat 32 f)) = ((2 : ℝ) ^ ex f : ℝ) := by
  obtain ⟨a, b, -, -⟩ := words ⟨f, by omega⟩
  unfold pw
  rw [a, b]
  exact P_mul _ (ex_range f h).1 (ex_range f h).2
/-- and of the opposite exponent. -/
theorem pw_neg (f : ℕ) (h : f ≤ 255) : pw (IntOp.subi 0#32 (expo (BitVec.ofNat 32 f))) = ((2 : ℝ) ^ (-ex f) : ℝ) := by
  obtain ⟨-, -, a, b⟩ := words ⟨f, by omega⟩
  unfold pw
  rw [a, b]
  have := ex_range f h
  exact P_mul (-ex f) (by omega) (by omega)

/-! ## The scale, as a value -/

/-- The field of a largest magnitude `a` divided by 448, and the first field for no magnitude. -/
def fieldOf (a : EReal) : ℕ := if a = 0 then 0 else field (a * Ideal.ofBits .f32 0x3B124925#32)
/-- The scale of a largest magnitude `a`. -/
def scale (a : EReal) : EReal := ((2 : ℝ) ^ ex (fieldOf a) : ℝ)
/-- Its inverse. -/
def inv (a : EReal) : EReal := ((2 : ℝ) ^ (-ex (fieldOf a)) : ℝ)

theorem fieldOf_le (a : EReal) : fieldOf a ≤ 255 := by
  unfold fieldOf
  split
  · omega
  · have := (field_inv (a * Ideal.ofBits .f32 0x3B124925#32)).1; omega

/-! ## The exponent, as the reference states it -/

theorem exp2_int (n : ℤ) : Ideal.exp2 (((n : ℝ)) : EReal) = ((2 : ℝ) ^ n : ℝ) := by
  rw [Ideal.exp2_coe]
  congr 1
  exact Real.rpow_intCast 2 n

theorem c125 : Ideal.ofBits .f32 0x42FA0000#32 = ((125 : ℝ) : EReal) := by
  simp only [Ideal.ofBits, Ideal.ieee]
  rw [if_neg (by decide +kernel), if_neg (by decide +kernel)]
  congr 1
  rw [show (BitVec.extractLsb' 0 23 0x42FA0000#32).toNat = 7995392 by decide +kernel, show (BitVec.extractLsb' 23 8 0x42FA0000#32).toNat = 133 by decide +kernel,
    if_neg (by decide +kernel)]
  norm_num
theorem c128 : Ideal.ofBits .f32 0x43000000#32 = (((128 : ℤ) : ℝ) : EReal) := by
  rw [show Ideal.ofBits .f32 0x43000000#32 = P 134 by unfold P; congr 1, P_normal 134 (by omega) (by omega)]
  congr 1
  norm_num

/-- The exponents that the reference chooses from. -/
theorem candidate (i : Fin 253) :
    ((FloatOps.sitofp (F := Ideal) .f32 (BitVec.ofNat 32 i.val) : EReal) - Ideal.ofBits .f32 0x42FA0000#32 : EReal) = ((((i.val : ℤ) - 125 : ℤ) : ℝ) : EReal) := by
  have hi : ∀ i : Fin 253, (BitVec.ofNat 32 i.val).toInt = (i.val : ℤ) := by decide +kernel
  show ((((BitVec.ofNat 32 i.val).toInt : ℝ) : EReal) - _) = _
  rw [c125, hi i, ← EReal.coe_sub]
  congr 1
  push_cast; ring
theorem candidate_power (i : Fin 253) : (FloatOps.exp2 (F := Ideal) (φ := .f32) ((((i.val : ℤ) - 125 : ℤ) : ℝ) : EReal) : EReal) = P (i.val + 2) := by
  rw [P_normal _ (by omega) (by omega)]
  refine (exp2_int _).trans ?_
  congr 2
  push_cast; ring

theorem P_one : Ideal.ofBits .f32 0x00800000#32 = P 1 := by unfold P; congr 1
theorem P_255 : Ideal.ofBits .f32 0x7F800000#32 = P 255 := by unfold P; congr 1

/-- The least exponent whose power is above `v`, when `v` is finite and not below the least power: the one of the field of `v`. -/
theorem least_exponent (v : EReal) (h1 : field v ≠ 0) (h2 : field v < 255) :
    Finset.univ.fold min (P 255) (fun i : Fin 253 => if v < P (i.val + 2) then ((((i.val : ℤ) - 125 : ℤ) : ℝ) : EReal) else (((128 : ℤ) : ℝ) : EReal))
      = (((field v : ℤ) - 126 : ℤ) : ℝ) := by
  obtain ⟨-, hl, hr⟩ := field_inv v
  have hlo := hl.resolve_left h1
  have hhi := hr.resolve_left (by omega)
  have mono : ∀ a b : ℤ, a ≤ b → ((a : ℝ) : EReal) ≤ ((b : ℝ) : EReal) := fun a b h => EReal.coe_le_coe_iff.2 (Int.cast_le.2 h)
  apply le_antisymm
  · by_cases h3 : field v = 254
    · refine (Finset.fold_min_le _).2 (.inr ⟨⟨0, by omega⟩, Finset.mem_univ _, ?_⟩)
      have n : ¬ v < P (0 + 2) := not_lt.2 (le_trans (P_mono (by omega) (by omega) (by omega)) hlo)
      simp only
      rw [if_neg n, h3]
      exact mono _ _ (by norm_num)
    · refine (Finset.fold_min_le _).2 (.inr ⟨⟨field v - 1, by omega⟩, Finset.mem_univ _, ?_⟩)
      have e : field v - 1 + 2 = field v + 1 := by omega
      simp only [e]
      rw [if_pos hhi]
      exact mono _ _ (by omega)
  · refine (Finset.le_fold_min _).2 ⟨by rw [P_top]; exact le_top, fun i _ => ?_⟩
    split
    · next h =>
      refine mono _ _ ?_
      by_contra hc
      exact absurd h (not_lt.2 (le_trans (P_mono (by omega) (by omega) (by omega)) hlo))
    · exact mono _ _ (by omega)

/-- The reference's exponent is the one of the field. -/
theorem exponent_ref (a : EReal) :
    (if a = 0 then (0 : EReal) else
      Scalar.select (IntOp.ori (BitVec.ofBool (decide (a * Ideal.ofBits .f32 0x3B124925#32 < Ideal.ofBits .f32 0x00800000#32)))
          (BitVec.ofBool (decide (a * Ideal.ofBits .f32 0x3B124925#32 = Ideal.ofBits .f32 0x7F800000#32)))) (0 : EReal)
        (Finset.univ.fold min (Ideal.ofBits .f32 0x7F800000#32) (fun i : Fin 253 =>
          if a * Ideal.ofBits .f32 0x3B124925#32 < FloatOps.exp2 (F := Ideal) (φ := .f32) ((FloatOps.sitofp (F := Ideal) .f32 (BitVec.ofNat 32 i.val) : EReal) - Ideal.ofBits .f32 0x42FA0000#32 : EReal)
          then ((FloatOps.sitofp (F := Ideal) .f32 (BitVec.ofNat 32 i.val) : EReal) - Ideal.ofBits .f32 0x42FA0000#32 : EReal) else Ideal.ofBits .f32 0x43000000#32)))
      = ((ex (fieldOf a) : ℝ) : EReal) := by
  unfold fieldOf
  by_cases ha : a = 0
  · rw [if_pos ha, if_pos ha]; simp [ex]
  rw [if_neg ha, if_neg ha]
  simp only [candidate, candidate_power, P_one, P_255, c128]
  generalize a * Ideal.ofBits .f32 0x3B124925#32 = v
  obtain ⟨hf, hl, hr⟩ := field_inv v
  by_cases h0 : field v = 0
  · have : v < P 1 := by have := hr.resolve_left (by omega); rwa [h0] at this
    have o : ∀ b : BitVec 1, 1#1 ||| b = 1#1 := by decide
    simp [Scalar.select, IntOp.ori, this, ex, h0, o]
  · have n0 : ¬ v < P 1 := not_lt.2 (le_trans (P_mono (by omega) (by omega) (by omega)) (hl.resolve_left h0))
    by_cases h1 : field v = 255
    · have : v = P 255 := by
        have := hl.resolve_left h0
        rw [h1, P_top] at this
        rw [P_top]; exact top_le_iff.1 this
      have o : ∀ b : BitVec 1, b ||| 1#1 = 1#1 := by decide
      rw [h1]
      simp [Scalar.select, IntOp.ori, this, ex, o]
    · have n1 : ¬ v = P 255 := by
        have h : v < P (field v + 1) := hr.resolve_left (by omega)
        have h' : P (field v + 1) ≤ P 255 := P_mono (by omega) (by omega) (by omega)
        exact ne_of_lt (lt_of_lt_of_le h h')
      rw [least_exponent v h0 (by omega)]
      simp [Scalar.select, IntOp.ori, n0, n1, ex, h0, h1]

/-- The reference's scale and inverse, from the exponent. -/
theorem exp2_scale (a : EReal) : (FloatOps.exp2 (F := Ideal) (φ := .f32) ((ex (fieldOf a) : ℝ) : EReal) : EReal) = scale a := exp2_int _
theorem exp2_inv (a : EReal) : (FloatOps.exp2 (F := Ideal) (φ := .f32) ((0 : EReal) - ((ex (fieldOf a) : ℝ) : EReal)) : EReal) = inv a := by
  have e : (0 : EReal) - ((ex (fieldOf a) : ℝ) : EReal) = (((-ex (fieldOf a) : ℤ) : ℝ) : EReal) := by
    rw [zero_sub]; push_cast; rfl
  rw [e]
  exact exp2_int _

/-! ## The function computed, on extended reals -/

/-- The largest magnitude of group `g` of row `r`. -/
def amaxS (X : Fin 64 → Fin 3584 → EReal) (r : Fin 64) (g : Fin 28) : EReal :=
  Finset.univ.fold max (Ideal.ofBits .f32 0xFF800000#32) (fun k : Fin 128 => FloatOps.absf (F := Ideal) (φ := .f32) (X r ⟨128 * g.val + k.val, by omega⟩))
/-- The scale of group `g` of row `r`. -/
def scaleS (X : Fin 64 → Fin 3584 → EReal) (r : Fin 64) (g : Fin 28) : EReal := scale (amaxS X r g)
/-- The code at row `r` and channel `c`. -/
def codeS (X : Fin 64 → Fin 3584 → EReal) (r : Fin 64) (c : Fin 3584) : EReal :=
  min (Ideal.ofBits .f32 0x43E00000#32) (max (Ideal.ofBits .f32 0xC3E00000#32) (X r c * inv (amaxS X r ⟨c.val / 128, by omega⟩)))
/-- What group `g` adds at row `r` and output channel `n`. -/
def termS (X : Fin 64 → Fin 3584 → EReal) (W : Fin 3584 → Fin 7168 → EReal) (S : Fin 28 → Fin 56 → EReal) (r : Fin 64) (n : Fin 7168) (g : Fin 28) : EReal :=
  (∑ k : Fin 128, codeS X r ⟨128 * g.val + k.val, by omega⟩ * W ⟨128 * g.val + k.val, by omega⟩ n) * scaleS X r g * S g ⟨n.val / 128, by omega⟩
/-- The activation function, in its tanh form. -/
def geluS (h : EReal) : EReal :=
  h * (Ideal.ofBits .f32 0x3F000000#32 * (1 + Ideal.tanh (Ideal.ofBits .f32 0x3F4C422A#32 * (h + Ideal.ofBits .f32 0x3D372713#32 * (h * h * h)))))
/-- The result at row `r` and output channel `n`. -/
def yS (X : Fin 64 → Fin 3584 → EReal) (W : Fin 3584 → Fin 7168 → EReal) (S : Fin 28 → Fin 56 → EReal) (r : Fin 64) (n : Fin 7168) : EReal :=
  geluS (∑ g : Fin 28, termS X W S r n g)

end Cert.Scale

end
-- ==== Proof.Split.lean ====
/- The kernel's body as two programs: the quantiser, run at the first grid point only, and the products, run at every point. -/
module

public import proofs.«01_k».proof.Proof.Gen.KernelIdeal.Skeleton
public import proofs.«01_k».proof.Proof.Gen.KernelIdeal.Frame

@[expose] public section

set_option maxRecDepth 65536
set_option synthInstance.maxSize 4096

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The part of the body that runs at the first grid point only: quantising the activations. -/
def quant (i : grid0.Coords) (arg1 : Memref sig .tc .smem S28x56 .f32) (harg1 : arg1.IsWhole) (arg2 : Memref sig .tc .vmem S64x3584 .bf16) (harg2 : arg2.IsWhole) (arg3 : Memref sig .tc .vmem S3584x512 .fp8e4m3) (harg3 : arg3.IsWhole) (arg4 : Memref sig .tc .vmem S64x512 .bf16) (harg4 : arg4.IsWhole) (arg5 : Memref sig .tc .vmem S64x3584 .fp8e4m3) (harg5 : arg5.IsWhole) (arg6 : Memref sig .tc .vmem S64x28 .f32) (harg6 : arg6.IsWhole) (arg7 : Memref sig .tc .vmem S64x3584 .f32) (harg7 : arg7.IsWhole) :
    Prog (TpuEff nD τ sig (Elt F) Λ₀ .tc) PUnit := do
  let v2238 : FVec F S64x1 .f32 ← k0_part19 i arg1 harg1 arg2 harg2 arg3 harg3 arg4 harg4 arg5 harg5 arg6 harg6 arg7 harg7
  let v2240 : Vec F S64x128 .f32 ← Prog.lift (.load arg7 (Rect.unit (s := S64x3584) ![0, 3456] S64x128.size inb_S64x3584_S64x128_0_3456).toLoadRect (View.loadsAt_vmem h_S64x128))
  Prog.lift (.store arg7 (Rect.unit (s := S64x3584) ![0, 3456] S64x128.size inb_S64x3584_S64x128_0_3456) (k0_pay81 v2238) Finset.univ (View.stores_vmem_bits_univ h_S64x128 rfl) (.inl rfl))
  pure ⟨⟩

/-- The start of the part of the body that runs at every grid point. -/
def tail20 (i : grid0.Coords) (arg1 : Memref sig .tc .smem S28x56 .f32) (harg1 : arg1.IsWhole) (arg2 : Memref sig .tc .vmem S64x3584 .bf16) (harg2 : arg2.IsWhole) (arg3 : Memref sig .tc .vmem S3584x512 .fp8e4m3) (harg3 : arg3.IsWhole) (arg4 : Memref sig .tc .vmem S64x512 .bf16) (harg4 : arg4.IsWhole) (arg5 : Memref sig .tc .vmem S64x3584 .fp8e4m3) (harg5 : arg5.IsWhole) (arg6 : Memref sig .tc .vmem S64x28 .f32) (harg6 : arg6.IsWhole) (arg7 : Memref sig .tc .vmem S64x3584 .f32) (harg7 : arg7.IsWhole) :
    Prog (TpuEff nD τ sig (Elt F) Λ₀ .tc) (Σ' (arg0 : BitVec 32) (v28 : FVec F S64x256 .f32), FVec F S64x256 .f32) := do
  let arg0 : BitVec 32 := BitVec.ofNat 32 (i 0).val
  let v4 : Vec F S64x128 .fp8e4m3 ← Prog.lift (.load arg5 (Rect.unit (s := S64x3584) ![0, 0] S64x128.size inb_S64x3584_S64x128_0_0).toLoadRect (View.loadsAt_vmem h_S64x128))
  let v6 : Vec F S128x256 .fp8e4m3 ← Prog.lift (.load arg3 (Rect.unit (s := S3584x512) ![0, 0] S128x256.size inb_S3584x512_S128x256_0_0).toLoadRect (View.loadsAt_vmem h_S128x256))
  let v8 : Vec F S64x128 .f32 ← Prog.lift (.load arg7 (Rect.unit (s := S64x3584) ![0, 0] S64x128.size inb_S64x3584_S64x128_0_0).toLoadRect (View.loadsAt_vmem h_S64x128))
  let v13 : Elt F .f32 ← smemLoad arg1 (Rect.unit (s := S28x56) (k0_off1 i 0#32 0#32) S1x1.size (k0_off1_inb i 0 0)) numel1_S1x1 rfl
  let v22 : Elt F .f32 ← smemLoad arg1 (Rect.unit (s := S28x56) (k0_off1 i 0#32 1#32) S1x1.size (k0_off1_inb i 0 1)) numel1_S1x1 rfl
  let v29 : Vec F S64x128 .fp8e4m3 ← Prog.lift (.load arg5 (Rect.unit (s := S64x3584) ![0, 128] S64x128.size inb_S64x3584_S64x128_0_128).toLoadRect (View.loadsAt_vmem h_S64x128))
  let v31 : Vec F S128x256 .fp8e4m3 ← Prog.lift (.load arg3 (Rect.unit (s := S3584x512) ![128, 0] S128x256.size inb_S3584x512_S128x256_128_0).toLoadRect (View.loadsAt_vmem h_S128x256))
  pure ⟨arg0, k0_pay82 v4 v6 v8 v13 v22, k0_pay83 v29 v31⟩

/-- The part of the body that runs at every grid point: the products, the rescaling and the GELU. -/
def prod (i : grid0.Coords) (arg1 : Memref sig .tc .smem S28x56 .f32) (harg1 : arg1.IsWhole) (arg2 : Memref sig .tc .vmem S64x3584 .bf16) (harg2 : arg2.IsWhole) (arg3 : Memref sig .tc .vmem S3584x512 .fp8e4m3) (harg3 : arg3.IsWhole) (arg4 : Memref sig .tc .vmem S64x512 .bf16) (harg4 : arg4.IsWhole) (arg5 : Memref sig .tc .vmem S64x3584 .fp8e4m3) (harg5 : arg5.IsWhole) (arg6 : Memref sig .tc .vmem S64x28 .f32) (harg6 : arg6.IsWhole) (arg7 : Memref sig .tc .vmem S64x3584 .f32) (harg7 : arg7.IsWhole) :
    Prog (TpuEff nD τ sig (Elt F) Λ₀ .tc) PUnit := do
  let ⟨arg0, v28, v32⟩ : Σ' (arg0 : BitVec 32) (v28 : FVec F S64x256 .f32), FVec F S64x256 .f32 ← tail20 i arg1 harg1 arg2 harg2 arg3 harg3 arg4 harg4 arg5 harg5 arg6 harg6 arg7 harg7
  let ⟨v53, v57, v58, v67, v70⟩ : Σ' (v53 : FVec F S64x256 .f32) (v57 : FVec F S64x256 .f32) (v58 : Vec F S64x128 .f32) (v67 : FVec F S64x128 .f32), BitVec 32 ← k0_part21 i arg1 harg1 arg2 harg2 arg3 harg3 arg4 harg4 arg5 harg5 arg6 harg6 arg7 harg7 arg0 v28 v32
  let ⟨v103, v107⟩ : Σ' (v103 : FVec F S64x256 .f32), FVec F S64x256 .f32 ← k0_part22 i arg1 harg1 arg2 harg2 arg3 harg3 arg4 harg4 arg5 harg5 arg6 harg6 arg7 harg7 arg0 v53 v57 v58 v67 v70
  let ⟨v128, v132, v133, v142, v145⟩ : Σ' (v128 : FVec F S64x256 .f32) (v132 : FVec F S64x256 .f32) (v133 : Vec F S64x128 .f32) (v142 : FVec F S64x128 .f32), BitVec 32 ← k0_part23 i arg1 harg1 arg2 harg2 arg3 harg3 arg4 harg4 arg5 harg5 arg6 harg6 arg7 harg7 arg0 v103 v107
  let ⟨v178, v182⟩ : Σ' (v178 : FVec F S64x256 .f32), FVec F S64x256 .f32 ← k0_part24 i arg1 harg1 arg2 harg2 arg3 harg3 arg4 harg4 arg5 harg5 arg6 harg6 arg7 harg7 arg0 v128 v132 v133 v142 v145
  let ⟨v203, v207, v208, v217, v220⟩ : Σ' (v203 : FVec F S64x256 .f32) (v207 : FVec F S64x256 .f32) (v208 : Vec F S64x128 .f32) (v217 : FVec F S64x128 .f32), BitVec 32 ← k0_part25 i arg1 harg1 arg2 harg2 arg3 harg3 arg4 harg4 arg5 harg5 arg6 harg6 arg7 harg7 arg0 v178 v182
  let ⟨v253, v257⟩ : Σ' (v253 : FVec F S64x256 .f32), FVec F S64x256 .f32 ← k0_part26 i arg1 harg1 arg2 harg2 arg3 harg3 arg4 harg4 arg5 harg5 arg6 harg6 arg7 harg7 arg0 v203 v207 v208 v217 v220
  let ⟨v278, v282, v283, v292, v295⟩ : Σ' (v278 : FVec F S64x256 .f32) (v282 : FVec F S64x256 .f32) (v283 : Vec F S64x128 .f32) (v292 : FVec F S64x128 .f32), BitVec 32 ← k0_part27 i arg1 harg1 arg2 harg2 arg3 harg3 arg4 harg4 arg5 harg5 arg6 harg6 arg7 harg7 arg0 v253 v257
  let ⟨v328, v332⟩ : Σ' (v328 : FVec F S64x256 .f32), FVec F S64x256 .f32 ← k0_part28 i arg1 harg1 arg2 harg2 arg3 harg3 arg4 harg4 arg5 harg5 arg6 harg6 arg7 harg7 arg0 v278 v282 v283 v292 v295
  let ⟨v353, v357, v358, v367, v370⟩ : Σ' (v353 : FVec F S64x256 .f32) (v357 : FVec F S64x256 .f32) (v358 : Vec F S64x128 .f32) (v367 : FVec F S64x128 .f32), BitVec 32 ← k0_part29 i arg1 harg1 arg2 harg2 arg3 harg3 arg4 harg4 arg5 harg5 arg6 harg6 arg7 harg7 arg0 v328 v332
  let ⟨v403, v407⟩ : Σ' (v403 : FVec F S64x256 .f32), FVec F S64x256 .f32 ← k0_part30 i arg1 harg1 arg2 harg2 arg3 harg3 arg4 harg4 arg5 harg5 arg6 harg6 arg7 harg7 arg0 v353 v357 v358 v367 v370
  let ⟨v428, v432, v433, v442, v445⟩ : Σ' (v428 : FVec F S64x256 .f32) (v432 : FVec F S64x256 .f32) (v433 : Vec F S64x128 .f32) (v442 : FVec F S64x128 .f32), BitVec 32 ← k0_part31 i arg1 harg1 arg2 harg2 arg3 harg3 arg4 harg4 arg5 harg5 arg6 harg6 arg7 harg7 arg0 v403 v407
  let ⟨v478, v482⟩ : Σ' (v478 : FVec F S64x256 .f32), FVec F S64x256 .f32 ← k0_part32 i arg1 harg1 arg2 harg2 arg3 harg3 arg4 harg4 arg5 harg5 arg6 harg6 arg7 harg7 arg0 v428 v432 v433 v442 v445
  let ⟨v503, v507, v508, v517, v520⟩ : Σ' (v503 : FVec F S64x256 .f32) (v507 : FVec F S64x256 .f32) (v508 : Vec F S64x128 .f32) (v517 : FVec F S64x128 .f32), BitVec 32 ← k0_part33 i arg1 harg1 arg2 harg2 arg3 harg3 arg4 harg4 arg5 harg5 arg6 harg6 arg7 harg7 arg0 v478 v482
  let ⟨v553, v557⟩ : Σ' (v553 : FVec F S64x256 .f32), FVec F S64x256 .f32 ← k0_part34 i arg1 harg1 arg2 harg2 arg3 harg3 arg4 harg4 arg5 harg5 arg6 harg6 arg7 harg7 arg0 v503 v507 v508 v517 v520
  let ⟨v578, v582, v583, v592, v595⟩ : Σ' (v578 : FVec F S64x256 .f32) (v582 : FVec F S64x256 .f32) (v583 : Vec F S64x128 .f32) (v592 : FVec F S64x128 .f32), BitVec 32 ← k0_part35 i arg1 harg1 arg2 harg2 arg3 harg3 arg4 harg4 arg5 harg5 arg6 harg6 arg7 harg7 arg0 v553 v557
  let ⟨v628, v632⟩ : Σ' (v628 : FVec F S64x256 .f32), FVec F S64x256 .f32 ← k0_part36 i arg1 harg1 arg2 harg2 arg3 harg3 arg4 harg4 arg5 harg5 arg6 harg6 arg7 harg7 arg0 v578 v582 v583 v592 v595
  let ⟨v653, v657, v658, v667, v670⟩ : Σ' (v653 : FVec F S64x256 .f32) (v657 : FVec F S64x256 .f32) (v658 : Vec F S64x128 .f32) (v667 : FVec F S64x128 .f32), BitVec 32 ← k0_part37 i arg1 harg1 arg2 harg2 arg3 harg3 arg4 harg4 arg5 harg5 arg6 harg6 arg7 harg7 arg0 v628 v632
  let ⟨v703, v711, cst_366⟩ : Σ' (v703 : FVec F S64x256 .f32) (v711 : FVec F S64x256 .f32), F .f32 ← k0_part38 i arg1 harg1 arg2 harg2 arg3 harg3 arg4 harg4 arg5 harg5 arg6 harg6 arg7 harg7 arg0 v653 v657 v658 v667 v670
  let ⟨v744, v746, v747⟩ : Σ' (v744 : FVec F S64x256 .f32) (v746 : FVec F S64x128 .fp8e4m3), Vec F S128x256 .fp8e4m3 ← k0_part39 i arg1 harg1 arg2 harg2 arg3 harg3 arg4 harg4 arg5 harg5 arg6 harg6 arg7 harg7 arg0 v703 v711 cst_366
  let ⟨v769, v773, v774, v783, v784⟩ : Σ' (v769 : FVec F S64x256 .f32) (v773 : FVec F S64x256 .f32) (v774 : Vec F S64x128 .f32) (v783 : FVec F S64x128 .f32), BitVec 32 ← k0_part40 i arg1 harg1 arg2 harg2 arg3 harg3 arg4 harg4 arg5 harg5 arg6 harg6 arg7 harg7 arg0 v744 v746 v747
  let ⟨v819, v821, v822⟩ : Σ' (v819 : FVec F S64x256 .f32) (v821 : FVec F S64x128 .fp8e4m3), Vec F S128x256 .fp8e4m3 ← k0_part41 i arg1 harg1 arg2 harg2 arg3 harg3 arg4 harg4 arg5 harg5 arg6 harg6 arg7 harg7 arg0 v769 v773 v774 v783 v784
  let ⟨v844, v848, v849, v858, v859⟩ : Σ' (v844 : FVec F S64x256 .f32) (v848 : FVec F S64x256 .f32) (v849 : Vec F S64x128 .f32) (v858 : FVec F S64x128 .f32), BitVec 32 ← k0_part42 i arg1 harg1 arg2 harg2 arg3 harg3 arg4 harg4 arg5 harg5 arg6 harg6 arg7 harg7 arg0 v819 v821 v822
  let ⟨v894, v896, v897⟩ : Σ' (v894 : FVec F S64x256 .f32) (v896 : FVec F S64x128 .fp8e4m3), Vec F S128x256 .fp8e4m3 ← k0_part43 i arg1 harg1 arg2 harg2 arg3 harg3 arg4 harg4 arg5 harg5 arg6 harg6 arg7 harg7 arg0 v844 v848 v849 v858 v859
  let ⟨v919, v923, v924, v933, v934⟩ : Σ' (v919 : FVec F S64x256 .f32) (v923 : FVec F S64x256 .f32) (v924 : Vec F S64x128 .f32) (v933 : FVec F S64x128 .f32), BitVec 32 ← k0_part44 i arg1 harg1 arg2 harg2 arg3 harg3 arg4 harg4 arg5 harg5 arg6 harg6 arg7 harg7 arg0 v894 v896 v897
  let ⟨v969, v971, v972⟩ : Σ' (v969 : FVec F S64x256 .f32) (v971 : FVec F S64x128 .fp8e4m3), Vec F S128x256 .fp8e4m3 ← k0_part45 i arg1 harg1 arg2 harg2 arg3 harg3 arg4 harg4 arg5 harg5 arg6 harg6 arg7 harg7 arg0 v919 v923 v924 v933 v934
  let ⟨v994, v998, v999, v1008, v1009⟩ : Σ' (v994 : FVec F S64x256 .f32) (v998 : FVec F S64x256 .f32) (v999 : Vec F S64x128 .f32) (v1008 : FVec F S64x128 .f32), BitVec 32 ← k0_part46 i arg1 harg1 arg2 harg2 arg3 harg3 arg4 harg4 arg5 harg5 arg6 harg6 arg7 harg7 arg0 v969 v971 v972
  let ⟨v1044, v1046, v1047⟩ : Σ' (v1044 : FVec F S64x256 .f32) (v1046 : FVec F S64x128 .fp8e4m3), Vec F S128x256 .fp8e4m3 ← k0_part47 i arg1 harg1 arg2 harg2 arg3 harg3 arg4 harg4 arg5 harg5 arg6 harg6 arg7 harg7 arg0 v994 v998 v999 v1008 v1009
  let ⟨v1069, v1073, v1074, v1083, v1084⟩ : Σ' (v1069 : FVec F S64x256 .f32) (v1073 : FVec F S64x256 .f32) (v1074 : Vec F S64x128 .f32) (v1083 : FVec F S64x128 .f32), BitVec 32 ← k0_part48 i arg1 harg1 arg2 harg2 arg3 harg3 arg4 harg4 arg5 harg5 arg6 harg6 arg7 harg7 arg0 v1044 v1046 v1047
  let ⟨v1119, v1121, v1122⟩ : Σ' (v1119 : FVec F S64x256 .f32) (v1121 : FVec F S64x128 .fp8e4m3), Vec F S128x256 .fp8e4m3 ← k0_part49 i arg1 harg1 arg2 harg2 arg3 harg3 arg4 harg4 arg5 harg5 arg6 harg6 arg7 harg7 arg0 v1069 v1073 v1074 v1083 v1084
  let ⟨v1144, v1148, v1149, v1158, v1159⟩ : Σ' (v1144 : FVec F S64x256 .f32) (v1148 : FVec F S64x256 .f32) (v1149 : Vec F S64x128 .f32) (v1158 : FVec F S64x128 .f32), BitVec 32 ← k0_part50 i arg1 harg1 arg2 harg2 arg3 harg3 arg4 harg4 arg5 harg5 arg6 harg6 arg7 harg7 arg0 v1119 v1121 v1122
  let ⟨v1194, v1196, v1197⟩ : Σ' (v1194 : FVec F S64x256 .f32) (v1196 : FVec F S64x128 .fp8e4m3), Vec F S128x256 .fp8e4m3 ← k0_part51 i arg1 harg1 arg2 harg2 arg3 harg3 arg4 harg4 arg5 harg5 arg6 harg6 arg7 harg7 arg0 v1144 v1148 v1149 v1158 v1159
  let ⟨v1219, v1223, v1224, v1233, v1234⟩ : Σ' (v1219 : FVec F S64x256 .f32) (v1223 : FVec F S64x256 .f32) (v1224 : Vec F S64x128 .f32) (v1233 : FVec F S64x128 .f32), BitVec 32 ← k0_part52 i arg1 harg1 arg2 harg2 arg3 harg3 arg4 harg4 arg5 harg5 arg6 harg6 arg7 harg7 arg0 v1194 v1196 v1197
  let ⟨v1269, v1271, v1272⟩ : Σ' (v1269 : FVec F S64x256 .f32) (v1271 : FVec F S64x128 .fp8e4m3), Vec F S128x256 .fp8e4m3 ← k0_part53 i arg1 harg1 arg2 harg2 arg3 harg3 arg4 harg4 arg5 harg5 arg6 harg6 arg7 harg7 arg0 v1219 v1223 v1224 v1233 v1234
  let ⟨v1294, v1298, v1299, v1308, v1309⟩ : Σ' (v1294 : FVec F S64x256 .f32) (v1298 : FVec F S64x256 .f32) (v1299 : Vec F S64x128 .f32) (v1308 : FVec F S64x128 .f32), BitVec 32 ← k0_part54 i arg1 harg1 arg2 harg2 arg3 harg3 arg4 harg4 arg5 harg5 arg6 harg6 arg7 harg7 arg0 v1269 v1271 v1272
  let ⟨v1344, v1346, v1347⟩ : Σ' (v1344 : FVec F S64x256 .f32) (v1346 : FVec F S64x128 .fp8e4m3), Vec F S128x256 .fp8e4m3 ← k0_part55 i arg1 harg1 arg2 harg2 arg3 harg3 arg4 harg4 arg5 harg5 arg6 harg6 arg7 harg7 arg0 v1294 v1298 v1299 v1308 v1309
  let ⟨v1369, v1373, v1374, v1383, v1384⟩ : Σ' (v1369 : FVec F S64x256 .f32) (v1373 : FVec F S64x256 .f32) (v1374 : Vec F S64x128 .f32) (v1383 : FVec F S64x128 .f32), BitVec 32 ← k0_part56 i arg1 harg1 arg2 harg2 arg3 harg3 arg4 harg4 arg5 harg5 arg6 harg6 arg7 harg7 arg0 v1344 v1346 v1347
  let ⟨v1419, v1424, cst_791⟩ : Σ' (v1419 : FVec F S64x256 .f32) (v1424 : FVec F S64x256 .f32), F .f32 ← k0_part57 i arg1 harg1 arg2 harg2 arg3 harg3 arg4 harg4 arg5 harg5 arg6 harg6 arg7 harg7 arg0 v1369 v1373 v1374 v1383 v1384
  let v1434 : Vec F S64x256 .bf16 ← Prog.lift (.load arg4 (Rect.unit (s := S64x512) ![0, 256] S64x256.size inb_S64x512_S64x256_0_256).toLoadRect (View.loadsAt_vmem h_S64x256))
  Prog.lift (.store arg4 (Rect.unit (s := S64x512) ![0, 256] S64x256.size inb_S64x512_S64x256_0_256) (k0_pay1 v1419 v1424 cst_791) Finset.univ (View.stores_vmem h_S64x256 (harg4.storeExact_slice rfl _ packedbf16_S64x512_S64x256_0_256) (fun _ => rfl)) (.inl rfl))
  pure ⟨⟩

/-- At the first grid point the body is the quantiser followed by the products. -/
theorem body_first (i : grid0.Coords) (arg1 : Memref sig .tc .smem S28x56 .f32) (harg1 : arg1.IsWhole) (arg2 : Memref sig .tc .vmem S64x3584 .bf16) (harg2 : arg2.IsWhole) (arg3 : Memref sig .tc .vmem S3584x512 .fp8e4m3) (harg3 : arg3.IsWhole) (arg4 : Memref sig .tc .vmem S64x512 .bf16) (harg4 : arg4.IsWhole) (arg5 : Memref sig .tc .vmem S64x3584 .fp8e4m3) (harg5 : arg5.IsWhole) (arg6 : Memref sig .tc .vmem S64x28 .f32) (harg6 : arg6.IsWhole) (arg7 : Memref sig .tc .vmem S64x3584 .f32) (harg7 : arg7.IsWhole) (h : k0_cond1 i = 1#1) :
    cc0__body (F := F) i arg1 harg1 arg2 harg2 arg3 harg3 arg4 harg4 arg5 harg5 arg6 harg6 arg7 harg7 = (quant (F := F) i arg1 harg1 arg2 harg2 arg3 harg3 arg4 harg4 arg5 harg5 arg6 harg6 arg7 harg7 >>= fun _ => prod (F := F) i arg1 harg1 arg2 harg2 arg3 harg3 arg4 harg4 arg5 harg5 arg6 harg6 arg7 harg7) := by
  rw [cc0__body_eq_skeleton]; unfold cc0__body_skel prod
  rw [k0_part20_eq_skeleton]; unfold k0_part20_skel tail20
  rw [dif_pos h]
  rw [← bind_assoc]
  rfl

/-- At the other grid points the body is the products. -/
theorem body_rest (i : grid0.Coords) (arg1 : Memref sig .tc .smem S28x56 .f32) (harg1 : arg1.IsWhole) (arg2 : Memref sig .tc .vmem S64x3584 .bf16) (harg2 : arg2.IsWhole) (arg3 : Memref sig .tc .vmem S3584x512 .fp8e4m3) (harg3 : arg3.IsWhole) (arg4 : Memref sig .tc .vmem S64x512 .bf16) (harg4 : arg4.IsWhole) (arg5 : Memref sig .tc .vmem S64x3584 .fp8e4m3) (harg5 : arg5.IsWhole) (arg6 : Memref sig .tc .vmem S64x28 .f32) (harg6 : arg6.IsWhole) (arg7 : Memref sig .tc .vmem S64x3584 .f32) (harg7 : arg7.IsWhole) (h : ¬ k0_cond1 i = 1#1) :
    cc0__body (F := F) i arg1 harg1 arg2 harg2 arg3 harg3 arg4 harg4 arg5 harg5 arg6 harg6 arg7 harg7 = prod (F := F) i arg1 harg1 arg2 harg2 arg3 harg3 arg4 harg4 arg5 harg5 arg6 harg6 arg7 harg7 := by
  rw [cc0__body_eq_skeleton]; unfold cc0__body_skel prod
  rw [k0_part20_eq_skeleton]; unfold k0_part20_skel tail20
  rw [dif_neg h]

end Cert.KernelIdeal.Val

end
-- ==== Proof.ProdRun.lean ====
/- The run of the products. -/
module

public import proofs.«01_k».proof.Proof.Split

@[expose] public section

set_option maxRecDepth 65536
set_option synthInstance.maxSize 4096

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The products, run from given contents of the scales, the weights, the codes and the broadcast scales: the
    pieces stored into the result's buffer (last first), and that running the program stores exactly them and
    leaves everything it reads as it was. -/
def prodRun (c : Dev nD) (i : grid0.Coords) (arg1 : Memref sig .tc .smem S28x56 .f32) (harg1 : arg1.IsWhole) (arg2 : Memref sig .tc .vmem S64x3584 .bf16) (harg2 : arg2.IsWhole) (arg3 : Memref sig .tc .vmem S3584x512 .fp8e4m3) (harg3 : arg3.IsWhole) (arg4 : Memref sig .tc .vmem S64x512 .bf16) (harg4 : arg4.IsWhole) (arg5 : Memref sig .tc .vmem S64x3584 .fp8e4m3) (harg5 : arg5.IsWhole) (arg6 : Memref sig .tc .vmem S64x28 .f32) (harg6 : arg6.IsWhole) (arg7 : Memref sig .tc .vmem S64x3584 .f32) (harg7 : arg7.IsWhole)
    (x0 : Vec F S28x56 .f32) (x2 : Vec F S3584x512 .fp8e4m3) (x4 : Vec F S64x3584 .fp8e4m3) (x7 : Vec F S64x3584 .f32) :
    { L3 : List (View.Piece (Elt F) S64x512 .bf16) //
      ∀ (E : Set ℕ) (K : PUnit → sProp 𝕄),
        iprop(owns (c : Thread nD τ) arg1 fullShare x0 ∗ owns (c : Thread nD τ) arg3 fullShare x2 ∗ (∃ d, owns (c : Thread nD τ) arg4 fullShare d) ∗ owns (c : Thread nD τ) arg5 fullShare x4 ∗ owns (c : Thread nD τ) arg7 fullShare x7
            ∗ (iprop(owns (c : Thread nD τ) arg1 fullShare x0 ∗ owns (c : Thread nD τ) arg3 fullShare x2 ∗ (∃ f, arg4.view.loc (c : Thread nD τ) ↦[arg4.view.set]{fullShare} arg4.view.writes (Elt F) f L3) ∗ owns (c : Thread nD τ) arg5 fullShare x4 ∗ owns (c : Thread nD τ) arg7 fullShare x7) -∗ K ⟨⟩))
          ⊢ wp frame (wpE (defs₀ (F := F)) Variants.none c none) E (prod i arg1 harg1 arg2 harg2 arg3 harg3 arg4 harg4 arg5 harg5 arg6 harg6 arg7 harg7) K } := by
  refine ⟨?_, fun E K => ?run⟩
  case run =>
    unfold prod tail20
    simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f2, %hf2, H2⟩, ⟨%d3, %f3, -, H3⟩, ⟨%f4, %hf4, H4⟩, ⟨%f7, %hf7, H7⟩, Hk⟩
    obtain rfl := harg1.eq_unread hf0; obtain rfl := harg3.eq_unread hf2; obtain rfl := harg5.eq_unread hf4; obtain rfl := harg7.eq_unread hf7
    sl_exec
    sl_step
    iapply Hk
    isplitl [H0]
    · iexists _; isplitr; · ipureintro; exact harg1.read_unread _
      iexact H0
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; isplitr; · ipureintro; exact harg7.read_unread _
    iexact H7

end Cert.KernelIdeal.Val

end
-- ==== Proof.QuantRun.lean ====
/- The run of the quantiser. -/
module

public import proofs.«01_k».proof.Proof.Split

@[expose] public section

set_option maxRecDepth 65536
set_option synthInstance.maxSize 4096

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The quantiser, run from given activations: the pieces stored into the codes' buffer, into the scales' buffer
    and into the broadcast scales' buffer (last first), and that running the program stores exactly them. -/
def quantRun (c : Dev nD) (i : grid0.Coords) (arg1 : Memref sig .tc .smem S28x56 .f32) (harg1 : arg1.IsWhole) (arg2 : Memref sig .tc .vmem S64x3584 .bf16) (harg2 : arg2.IsWhole) (arg3 : Memref sig .tc .vmem S3584x512 .fp8e4m3) (harg3 : arg3.IsWhole) (arg4 : Memref sig .tc .vmem S64x512 .bf16) (harg4 : arg4.IsWhole) (arg5 : Memref sig .tc .vmem S64x3584 .fp8e4m3) (harg5 : arg5.IsWhole) (arg6 : Memref sig .tc .vmem S64x28 .f32) (harg6 : arg6.IsWhole) (arg7 : Memref sig .tc .vmem S64x3584 .f32) (harg7 : arg7.IsWhole)
    (x1 : Vec F S64x3584 .bf16) :
    Σ' (L5 : List (View.Piece (Elt F) S64x3584 .fp8e4m3)) (L6 : List (View.Piece (Elt F) S64x28 .f32)), { L7 : List (View.Piece (Elt F) S64x3584 .f32) //
      ∀ (E : Set ℕ) (K : PUnit → sProp 𝕄),
        iprop(owns (c : Thread nD τ) arg2 fullShare x1 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x1 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (quant i arg1 harg1 arg2 harg2 arg3 harg3 arg4 harg4 arg5 harg5 arg6 harg6 arg7 harg7) K } := by
  refine ⟨?_, ?_, ?_, fun E K => ?run⟩
  case run =>
    unfold quant
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f1, %hf1, H1⟩, ⟨%d5, %f5, -, H5⟩, ⟨%d6, %f6, -, H6⟩, ⟨%d7, %f7, -, H7⟩, Hk⟩
    obtain rfl := harg2.eq_unread hf1
    sl_exec
    sl_step
    iapply Hk
    isplitl [H1]
    · iexists _; isplitr; · ipureintro; exact harg2.read_unread _
      iexact H1
    isplitl [H5]; · iexists _; iexact H5
    isplitl [H6]; · iexists _; iexact H6
    iexists _; iexact H7

end Cert.KernelIdeal.Val

end
-- ==== Proof.Chain.lean ====
/- The stored pieces of the body, read as a chain of 28 groups. -/
module

public import proofs.«01_k».proof.Proof.ProdRun
public import proofs.«01_k».proof.Proof.QuantRun

@[expose] public section

set_option maxRecDepth 65536
set_option synthInstance.maxSize 4096

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One step of the products: the previous sum, plus the product of one group of 128 input channels with 256 output
    channels, times the group's activation scale and the two weight scales of the 256 output channels. -/
def hstep (acc : FVec F S64x256 .f32) (cb : Vec F S64x128 .fp8e4m3) (wb : Vec F S128x256 .fp8e4m3) (sx : Vec F S64x128 .f32) (s0 s1 : Elt F .f32) : FVec F S64x256 .f32 :=
  addf acc (concatenate S64x256 1
    [⟨S64x128, mulf (mulf (extractStridedSlice S64x128 ![0, 0] (matmul dot_S64x128_S128x256_S64x256_1_0_0_1_n_n none (shapeCast S64x128 cb shapeCasts_S64x128_S64x128) wb (constant S64x256 .f32 0x00000000#32)) slices_S64x256_o0_0_S64x128) sx) (broadcast S64x128 s0)⟩,
     ⟨S64x128, mulf (mulf (extractStridedSlice S64x128 ![0, 128] (matmul dot_S64x128_S128x256_S64x256_1_0_0_1_n_n none (shapeCast S64x128 cb shapeCasts_S64x128_S64x128) wb (constant S64x256 .f32 0x00000000#32)) slices_S64x256_o0_128_S64x128) sx) (broadcast S64x128 s1)⟩]
    concatenates_S64x128_S64x128_S64x256_d1)

/-- The sum of the first `n` groups, from each group's codes, weights, activation scales and weight scales. -/
def hacc (cb : Fin 28 → Vec F S64x128 .fp8e4m3) (wb : Fin 28 → Vec F S128x256 .fp8e4m3) (sx : Fin 28 → Vec F S64x128 .f32) (s0 s1 : Fin 28 → Elt F .f32) :
    (n : ℕ) → n ≤ 28 → FVec F S64x256 .f32
  | 0, _ => broadcast S64x256 (Scalar.ofBits .f32 0x00000000#32)
  | n + 1, h => hstep (hacc cb wb sx s0 s1 n (Nat.le_of_succ_le h)) (cb ⟨n, h⟩) (wb ⟨n, h⟩) (sx ⟨n, h⟩) (s0 ⟨n, h⟩) (s1 ⟨n, h⟩)

/-- Where the weight scale of group `g` and output block `4 i + a + b` lies. -/
def soff (g : ℕ) (i : grid0.Coords) (a b : BitVec 32) : Fin 2 → ℕ :=
  ![g, (Scalar.indexCast (Scalar.addi (Scalar.addi (Scalar.muli (BitVec.ofNat 32 (i 0).val) 4#32) a) b)).toNat]

/-- The column of that weight scale, as a number. -/
theorem soff_col (i : grid0.Coords) (hf b : Fin 2) :
    (Scalar.indexCast (Scalar.addi (Scalar.addi (Scalar.muli (BitVec.ofNat 32 (i 0).val) 4#32) (BitVec.ofNat 32 (2 * hf.val))) (BitVec.ofNat 32 b.val))).toNat
      = 4 * (i 0).val + 2 * hf.val + b.val := by
  have key : ∀ (n : Fin 14) (hf b : Fin 2), (Scalar.indexCast (Scalar.addi (Scalar.addi (Scalar.muli (BitVec.ofNat 32 n.val) 4#32) (BitVec.ofNat 32 (2 * hf.val))) (BitVec.ofNat 32 b.val))).toNat = 4 * n.val + 2 * hf.val + b.val := by decide +kernel
  exact key ⟨(i 0).val, (i 0).isLt⟩ hf b

theorem soff_inb (g : Fin 28) (i : grid0.Coords) (hf b : Fin 2) :
    ∀ a, soff g.val i (BitVec.ofNat 32 (2 * hf.val)) (BitVec.ofNat 32 b.val) a + S1x1.size a ≤ S28x56.size a := by
  have h : (i 0).val < 14 := (i 0).isLt
  intro a
  fin_cases a
  · show g.val + 1 ≤ 28; omega
  · show (Scalar.indexCast _).toNat + 1 ≤ 56
    rw [soff_col]; omega

theorem cb_inb (g : Fin 28) : ∀ a, (![0, 128 * g.val] : Fin 2 → ℕ) a + S64x128.size a ≤ S64x3584.size a := by
  intro a; fin_cases a
  · show 0 + 64 ≤ 64; omega
  · show 128 * g.val + 128 ≤ 3584; omega

theorem wb_inb (g : Fin 28) (hf : Fin 2) : ∀ a, (![128 * g.val, 256 * hf.val] : Fin 2 → ℕ) a + S128x256.size a ≤ S3584x512.size a := by
  intro a; fin_cases a
  · show 128 * g.val + 128 ≤ 3584; omega
  · show 256 * hf.val + 256 ≤ 512; omega

section
variable (i : grid0.Coords) (arg1 : Memref sig .tc .smem S28x56 .f32) (harg1 : arg1.IsWhole) (arg3 : Memref sig .tc .vmem S3584x512 .fp8e4m3) (harg3 : arg3.IsWhole) (arg5 : Memref sig .tc .vmem S64x3584 .fp8e4m3) (harg5 : arg5.IsWhole) (arg7 : Memref sig .tc .vmem S64x3584 .f32) (harg7 : arg7.IsWhole)
    (x0 : Vec F S28x56 .f32) (x2 : Vec F S3584x512 .fp8e4m3) (x4 : Vec F S64x3584 .fp8e4m3) (x7 : Vec F S64x3584 .f32)

/-- The codes of group `g`, as loaded. -/
def cLd (g : Fin 28) : Vec F S64x128 .fp8e4m3 :=
  View.readAt (Elt F) arg5.view (Rect.unit (s := S64x3584) ![0, 128 * g.val] S64x128.size (cb_inb g)).toLoadRect (harg5.unread x4)
/-- The broadcast activation scales of group `g`, as loaded. -/
def sLd (g : Fin 28) : Vec F S64x128 .f32 :=
  View.readAt (Elt F) arg7.view (Rect.unit (s := S64x3584) ![0, 128 * g.val] S64x128.size (cb_inb g)).toLoadRect (harg7.unread x7)
/-- The weights of group `g` and one half of the 512 output channels, as loaded. -/
def wLd (hf : Fin 2) (g : Fin 28) : Vec F S128x256 .fp8e4m3 :=
  View.readAt (Elt F) arg3.view (Rect.unit (s := S3584x512) ![128 * g.val, 256 * hf.val] S128x256.size (wb_inb g hf)).toLoadRect (harg3.unread x2)
/-- One weight scale, as loaded. -/
def wsLd (hf b : Fin 2) (g : Fin 28) : Elt F .f32 :=
  View.readAt (Elt F) arg1.view (Rect.unit (s := S28x56) (soff g.val i (BitVec.ofNat 32 (2 * hf.val)) (BitVec.ofNat 32 b.val)) S1x1.size (soff_inb g i hf b)).toLoadRect (harg1.unread x0) (Shape.Idx.first (numel1_S1x1.symm ▸ Nat.one_pos : 0 < S1x1.numel))

end

theorem gslice (g : Fin 28) : S64x3584.Slices ![0, 128 * g.val] S64x128 := ⟨rfl, cb_inb g⟩
theorem gcol_inb (g : Fin 28) : ∀ a, (![0, g.val] : Fin 2 → ℕ) a + S64x1.size a ≤ S64x28.size a := by
  intro a; fin_cases a
  · show 0 + 64 ≤ 64; omega
  · show g.val + 1 ≤ 28; omega
theorem gcol (g : Fin 28) : S64x28.Slices ![0, g.val] S64x1 := ⟨rfl, gcol_inb g⟩

/-- The largest magnitudes of the first `n` groups, each in its own lane (zero in the other lanes). -/
def amx (xf : FVec F S64x3584 .f32) : (n : ℕ) → n ≤ 28 → FVec F S64x28 .f32
  | 0, _ => broadcast S64x28 (Scalar.ofBits .f32 0x00000000#32)
  | n + 1, h =>
    select (cmpi .eq (iota .tc S64x28 32 [1] iota_S64x28_d1_w32) (broadcast S64x28 (BitVec.ofNat 32 n)))
      (broadcastTo S64x28 (shapeCast S64x1 (shapeCast S64x1 (multiReduction .maximumf [1] S64 (absf (extractStridedSlice S64x128 ![0, 128 * n] xf (gslice ⟨n, h⟩))) 0xFF800000#32 reduces_S64x128_S64 (.inl rfl) rfl)
        shapeCasts_S64_S64x1) shapeCasts_S64x1_S64x1) broadcasts_S64x1_S64x28)
      (amx xf n (Nat.le_of_succ_le h))

/-- One step of the binary search of the exponent field: add `b` unless the power of two it names is above `v`. -/
def fbit (v : FVec F S64x28 .f32) (b : BitVec 32) (field : IVec S64x28 32) : IVec S64x28 32 :=
  select (cmpf .olt v (bitcastToFloat .f32 (shli (addi field (broadcast S64x28 b)) (broadcast S64x28 23#32)))) field (addi field (broadcast S64x28 b))

/-- The exponent field found by the eight steps. -/
def ffield (v : FVec F S64x28 .f32) : IVec S64x28 32 :=
  fbit v 1#32 (fbit v 2#32 (fbit v 4#32 (fbit v 8#32 (fbit v 16#32 (fbit v 32#32 (fbit v 64#32 (fbit v 128#32 (broadcast S64x28 0#32))))))))

/-- The exponent of the scales, from the largest magnitudes. -/
def qexp (am : FVec F S64x28 .f32) : IVec S64x28 32 :=
  select (cmpf .oeq am (broadcast S64x28 (Scalar.ofBits .f32 0x00000000#32))) (broadcast S64x28 0#32)
    (select (ori (cmpi .eq (ffield (mulf am (broadcast S64x28 (Scalar.ofBits .f32 0x3B124925#32)))) (broadcast S64x28 0#32))
        (cmpi .eq (ffield (mulf am (broadcast S64x28 (Scalar.ofBits .f32 0x3B124925#32)))) (broadcast S64x28 255#32)))
      (broadcast S64x28 0#32) (subi (ffield (mulf am (broadcast S64x28 (Scalar.ofBits .f32 0x3B124925#32)))) (broadcast S64x28 126#32)))

/-- Half of an exponent, rounded down. -/
def qhalf (e : IVec S64x28 32) : IVec S64x28 32 := shrsi e (broadcast S64x28 1#32)
/-- The power of two of an exponent, as the product of the powers of its two halves. -/
def qpow (e : IVec S64x28 32) : FVec F S64x28 .f32 :=
  mulf (bitcastToFloat .f32 (shli (addi (qhalf e) (broadcast S64x28 127#32)) (broadcast S64x28 23#32)))
    (bitcastToFloat .f32 (shli (addi (subi e (qhalf e)) (broadcast S64x28 127#32)) (broadcast S64x28 23#32)))

/-- The scales of a block of activations. -/
def qscale (x : Vec F S64x3584 .bf16) : FVec F S64x28 .f32 := qpow (qexp (amx (k0_pay2 x) 28 le_rfl))
/-- Their inverses. -/
def qinv (x : Vec F S64x3584 .bf16) : FVec F S64x28 .f32 := qpow (subi (broadcast S64x28 0#32) (qexp (amx (k0_pay2 x) 28 le_rfl)))

/-- The codes of one group. -/
def qcode (x : Vec F S64x3584 .bf16) (g : Fin 28) : FVec F S64x128 .fp8e4m3 :=
  truncf .fp8e4m3 (minimumf (broadcast S64x128 (Scalar.ofBits .f32 0x43E00000#32)) (maximumf (broadcast S64x128 (Scalar.ofBits .f32 0xC3E00000#32))
    (mulf (extractStridedSlice S64x128 ![0, 128 * g.val] (k0_pay2 x) (gslice g)) (broadcastTo S64x128 (extractStridedSlice S64x1 ![0, g.val] (qinv x) (gcol g)) broadcasts_S64x1_S64x128)))) bitsLt_fp8e4m3_f32
/-- The scales of one group, broadcast over its channels. -/
def qsxb (x : Vec F S64x3584 .bf16) (g : Fin 28) : FVec F S64x128 .f32 :=
  shapeCast S64x128 (broadcastTo S64x128 (shapeCast S64x1 (extractStridedSlice S64x1 ![0, g.val] (qscale x) (gcol g)) shapeCasts_S64x1_S64x1) broadcasts_S64x1_S64x128) shapeCasts_S64x128_S64x128

section
variable (c : Dev nD) (i : grid0.Coords) (arg1 : Memref sig .tc .smem S28x56 .f32) (harg1 : arg1.IsWhole) (arg2 : Memref sig .tc .vmem S64x3584 .bf16) (harg2 : arg2.IsWhole) (arg3 : Memref sig .tc .vmem S3584x512 .fp8e4m3) (harg3 : arg3.IsWhole) (arg4 : Memref sig .tc .vmem S64x512 .bf16) (harg4 : arg4.IsWhole) (arg5 : Memref sig .tc .vmem S64x3584 .fp8e4m3) (harg5 : arg5.IsWhole) (arg6 : Memref sig .tc .vmem S64x28 .f32) (harg6 : arg6.IsWhole) (arg7 : Memref sig .tc .vmem S64x3584 .f32) (harg7 : arg7.IsWhole)
  (x0 : Vec F S28x56 .f32) (x1 : Vec F S64x3584 .bf16) (x2 : Vec F S3584x512 .fp8e4m3) (x4 : Vec F S64x3584 .fp8e4m3) (x7 : Vec F S64x3584 .f32)

/-- The activations, as loaded. -/
def xLd : Vec F S64x3584 .bf16 :=
  View.readAt (Elt F) arg2.view (Rect.unit (s := S64x3584) ![0, 0] S64x3584.size inb_S64x3584_S64x3584_0_0).toLoadRect (harg2.unread x1)

/-- The rectangle of group `g` in the activations. -/
def gRect (g : Fin 28) : Rect S64x3584 := Rect.unit (s := S64x3584) ![0, 128 * g.val] S64x128.size (cb_inb g)

/-- The codes are stored group by group. -/
theorem quantRun_codes : (quantRun c i arg1 harg1 arg2 harg2 arg3 harg3 arg4 harg4 arg5 harg5 arg6 harg6 arg7 harg7 x1).1
    = (List.finRange 28).reverse.map fun g => (⟨gRect g, qcode (xLd arg2 harg2 x1) g⟩ : View.Piece (Elt F) S64x3584 .fp8e4m3) := rfl

/-- The scales are stored at once. -/
theorem quantRun_scales : (quantRun c i arg1 harg1 arg2 harg2 arg3 harg3 arg4 harg4 arg5 harg5 arg6 harg6 arg7 harg7 x1).2.1
    = [(⟨Rect.unit (s := S64x28) ![0, 0] S64x28.size inb_S64x28_S64x28_0_0, qscale (xLd arg2 harg2 x1)⟩ : View.Piece (Elt F) S64x28 .f32)] := rfl

/-- The broadcast scales are stored group by group. -/
theorem quantRun_sxb : (quantRun c i arg1 harg1 arg2 harg2 arg3 harg3 arg4 harg4 arg5 harg5 arg6 harg6 arg7 harg7 x1).2.2.1
    = (List.finRange 28).reverse.map fun g => (⟨gRect g, qsxb (xLd arg2 harg2 x1) g⟩ : View.Piece (Elt F) S64x3584 .f32) := rfl

/-- The activation function, on a block of sums, and the rounding to bf16. -/
def gelu (h : FVec F S64x256 .f32) : FVec F S64x256 .bf16 :=
  truncf .bf16 (mulf h (mulf (broadcast S64x256 (Scalar.ofBits .f32 0x3F000000#32)) (addf (broadcast S64x256 (Scalar.ofBits .f32 0x3F800000#32))
    (tanh (mulf (broadcast S64x256 (Scalar.ofBits .f32 0x3F4C422A#32)) (addf h (mulf (broadcast S64x256 (Scalar.ofBits .f32 0x3D372713#32)) (mulf (mulf h h) h)))))))) bitsLt_bf16_f32

theorem half_inb (hf : Fin 2) : ∀ a, (![0, 256 * hf.val] : Fin 2 → ℕ) a + S64x256.size a ≤ S64x512.size a := by
  intro a; fin_cases a
  · show 0 + 64 ≤ 64; omega
  · show 256 * hf.val + 256 ≤ 512; omega

/-- The rectangle of one half of a block of the result. -/
def hRect (hf : Fin 2) : Rect S64x512 := Rect.unit (s := S64x512) ![0, 256 * hf.val] S64x256.size (half_inb hf)

/-- The result is stored in two halves, each the activation function of its sum of 28 groups. -/
theorem prodRun_pieces : (prodRun c i arg1 harg1 arg2 harg2 arg3 harg3 arg4 harg4 arg5 harg5 arg6 harg6 arg7 harg7 x0 x2 x4 x7).1
    = (List.finRange 2).reverse.map fun hf => (⟨hRect hf, gelu (hacc (cLd arg5 harg5 x4) (wLd arg3 harg3 x2 hf) (sLd arg7 harg7 x7) (wsLd i arg1 harg1 x0 hf 0) (wsLd i arg1 harg1 x0 hf 1) 28 le_rfl)⟩ : View.Piece (Elt F) S64x512 .bf16) := rfl
end

end Cert.KernelIdeal.Val

end
-- ==== Proof.Vals.lean ====
/- What the buffers hold after the body, as functions of the blocks it reads. -/
module

public import proofs.«01_k».proof.Proof.Chain
public import Idealize.ShloMosaic.Lib.Pipeline.ValueKit

@[expose] public section

set_option maxRecDepth 65536
set_option synthInstance.maxSize 4096

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the buffers hold, from the blocks alone -/

/-- The codes of a block of activations, as the kernel stores them. -/
def codesV (x : Vec F S64x3584 .bf16) : Vec F S64x3584 .fp8e4m3 :=
  View.canon ((List.finRange 28).reverse.map fun g => (⟨gRect g, qcode x g⟩ : View.Piece (Elt F) S64x3584 .fp8e4m3))
/-- The scales of a block of activations, as the kernel stores them. -/
def scalesV (x : Vec F S64x3584 .bf16) : Vec F S64x28 .f32 :=
  View.canon [(⟨Rect.unit (s := S64x28) ![0, 0] S64x28.size inb_S64x28_S64x28_0_0, qscale x⟩ : View.Piece (Elt F) S64x28 .f32)]
/-- The scales broadcast over the channels, as the kernel keeps them. -/
def sxbV (x : Vec F S64x3584 .bf16) : Vec F S64x3584 .f32 :=
  View.canon ((List.finRange 28).reverse.map fun g => (⟨gRect g, qsxb x g⟩ : View.Piece (Elt F) S64x3584 .f32))

/-- One weight scale. -/
def wsV (i : grid0.Coords) (x0 : Vec F S28x56 .f32) (hf b : Fin 2) (g : Fin 28) : Elt F .f32 :=
  View.ld x0 (Rect.unit (s := S28x56) (soff g.val i (BitVec.ofNat 32 (2 * hf.val)) (BitVec.ofNat 32 b.val)) S1x1.size (soff_inb g i hf b)) (Shape.Idx.first (numel1_S1x1.symm ▸ Nat.one_pos : 0 < S1x1.numel))

/-- The sum of 28 groups for one half of a block of the result. -/
def hV (i : grid0.Coords) (x0 : Vec F S28x56 .f32) (x2 : Vec F S3584x512 .fp8e4m3) (x4 : Vec F S64x3584 .fp8e4m3) (x7 : Vec F S64x3584 .f32) (hf : Fin 2) : FVec F S64x256 .f32 :=
  hacc (fun g => View.ld x4 (gRect g)) (fun g => View.ld x2 (Rect.unit (s := S3584x512) ![128 * g.val, 256 * hf.val] S128x256.size (wb_inb g hf)))
    (fun g => View.ld x7 (gRect g)) (wsV i x0 hf 0) (wsV i x0 hf 1) 28 le_rfl

/-- A block of the result, as the kernel stores it. -/
def yV (i : grid0.Coords) (x0 : Vec F S28x56 .f32) (x2 : Vec F S3584x512 .fp8e4m3) (x4 : Vec F S64x3584 .fp8e4m3) (x7 : Vec F S64x3584 .f32) : Vec F S64x512 .bf16 :=
  View.canon ((List.finRange 2).reverse.map fun hf => (⟨hRect hf, gelu (hV i x0 x2 x4 x7 hf)⟩ : View.Piece (Elt F) S64x512 .bf16))

theorem cover_g {e : EltTy} (p : Fin 28 → S64x128.Idx → Elt F e) (y : S64x3584.Idx) :
    ∃ pc ∈ ((List.finRange 28).reverse.map fun g => (⟨gRect g, p g⟩ : View.Piece (Elt F) S64x3584 e)), y ∈ pc.1.set :=
  View.cover_of_tiledL ((List.finRange 28).reverse.map fun g => (⟨gRect g, p g⟩ : View.Piece (Elt F) S64x3584 e)) S64x128.size (by sl_kernel_rfl) y
theorem cover_h {e : EltTy} (p : Fin 2 → S64x256.Idx → Elt F e) (y : S64x512.Idx) :
    ∃ pc ∈ ((List.finRange 2).reverse.map fun g => (⟨hRect g, p g⟩ : View.Piece (Elt F) S64x512 e)), y ∈ pc.1.set :=
  View.cover_of_tiledL ((List.finRange 2).reverse.map fun g => (⟨hRect g, p g⟩ : View.Piece (Elt F) S64x512 e)) S64x256.size (by sl_kernel_rfl) y
theorem cover_s {e : EltTy} (p : S64x28.Idx → Elt F e) (y : S64x28.Idx) :
    ∃ pc ∈ [(⟨Rect.unit (s := S64x28) ![0, 0] S64x28.size inb_S64x28_S64x28_0_0, p⟩ : View.Piece (Elt F) S64x28 e)], y ∈ pc.1.set :=
  View.cover_of_tiledL [(⟨Rect.unit (s := S64x28) ![0, 0] S64x28.size inb_S64x28_S64x28_0_0, p⟩ : View.Piece (Elt F) S64x28 e)] S64x28.size (by sl_kernel_rfl) y

section
variable (c : Dev nD) (i : grid0.Coords) (arg1 : Memref sig .tc .smem S28x56 .f32) (harg1 : arg1.IsWhole) (arg2 : Memref sig .tc .vmem S64x3584 .bf16) (harg2 : arg2.IsWhole) (arg3 : Memref sig .tc .vmem S3584x512 .fp8e4m3) (harg3 : arg3.IsWhole) (arg4 : Memref sig .tc .vmem S64x512 .bf16) (harg4 : arg4.IsWhole) (arg5 : Memref sig .tc .vmem S64x3584 .fp8e4m3) (harg5 : arg5.IsWhole) (arg6 : Memref sig .tc .vmem S64x28 .f32) (harg6 : arg6.IsWhole) (arg7 : Memref sig .tc .vmem S64x3584 .f32) (harg7 : arg7.IsWhole)
  (x0 : Vec F S28x56 .f32) (x1 : Vec F S64x3584 .bf16) (x2 : Vec F S3584x512 .fp8e4m3) (x4 : Vec F S64x3584 .fp8e4m3) (x7 : Vec F S64x3584 .f32)

theorem xLd_eq : xLd arg2 harg2 x1 = x1 := by
  unfold xLd; rw [View.readAt_eq_ld, Memref.IsWhole.read_unread]
  funext j
  exact View.ld_unit_apply_of x1 _ _ _ j j (fun a => by fin_cases a <;> exact (Nat.zero_add _).symm)
theorem cLd_eq : cLd arg5 harg5 x4 = fun g => View.ld x4 (gRect g) := by
  funext g; unfold cLd; rw [View.readAt_eq_ld, Memref.IsWhole.read_unread]; rfl
theorem sLd_eq : sLd arg7 harg7 x7 = fun g => View.ld x7 (gRect g) := by
  funext g; unfold sLd; rw [View.readAt_eq_ld, Memref.IsWhole.read_unread]; rfl
theorem wLd_eq (hf : Fin 2) : wLd arg3 harg3 x2 hf = fun g => View.ld x2 (Rect.unit (s := S3584x512) ![128 * g.val, 256 * hf.val] S128x256.size (wb_inb g hf)) := by
  funext g; unfold wLd; rw [View.readAt_eq_ld, Memref.IsWhole.read_unread]
theorem wsLd_eq (hf b : Fin 2) : wsLd i arg1 harg1 x0 hf b = wsV i x0 hf b := by
  funext g; unfold wsLd wsV; rw [View.readAt_eq_ld, Memref.IsWhole.read_unread]

/-- What the codes' stores leave in any buffer. -/
theorem codes_left (f : arg5.view.ty.Contents (Elt F)) :
    arg5.view.read (Elt F) (arg5.view.writes (Elt F) f (quantRun c i arg1 harg1 arg2 harg2 arg3 harg3 arg4 harg4 arg5 harg5 arg6 harg6 arg7 harg7 x1).1) = codesV x1 := by
  rw [quantRun_codes, xLd_eq, View.read_writes_eq_canon _ _ _ (cover_g _)]; rfl
/-- What the scales' store leaves in any buffer. -/
theorem scales_left (f : arg6.view.ty.Contents (Elt F)) :
    arg6.view.read (Elt F) (arg6.view.writes (Elt F) f (quantRun c i arg1 harg1 arg2 harg2 arg3 harg3 arg4 harg4 arg5 harg5 arg6 harg6 arg7 harg7 x1).2.1) = scalesV x1 := by
  rw [quantRun_scales, xLd_eq, View.read_writes_eq_canon _ _ _ (cover_s _)]; rfl
/-- What the broadcast scales' stores leave in any buffer. -/
theorem sxb_left (f : arg7.view.ty.Contents (Elt F)) :
    arg7.view.read (Elt F) (arg7.view.writes (Elt F) f (quantRun c i arg1 harg1 arg2 harg2 arg3 harg3 arg4 harg4 arg5 harg5 arg6 harg6 arg7 harg7 x1).2.2.1) = sxbV x1 := by
  rw [quantRun_sxb, xLd_eq, View.read_writes_eq_canon _ _ _ (cover_g _)]; rfl
/-- What the result's stores leave in any buffer. -/
theorem y_left (f : arg4.view.ty.Contents (Elt F)) :
    arg4.view.read (Elt F) (arg4.view.writes (Elt F) f (prodRun c i arg1 harg1 arg2 harg2 arg3 harg3 arg4 harg4 arg5 harg5 arg6 harg6 arg7 harg7 x0 x2 x4 x7).1) = yV i x0 x2 x4 x7 := by
  rw [prodRun_pieces]; simp only [cLd_eq, sLd_eq, wLd_eq, wsLd_eq]
  rw [View.read_writes_eq_canon _ _ _ (cover_h _)]; rfl
end

end Cert.KernelIdeal.Val

end
-- ==== Proof.Body.lean ====
/- The body at the first grid point and at the others. -/
module

public import proofs.«01_k».proof.Proof.Vals

@[expose] public section

set_option maxRecDepth 65536
set_option synthInstance.maxSize 4096

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at the first grid point: it leaves the codes, the scales and the broadcast scales of its block of
    activations, and the block of the result computed from them. -/
theorem run_first (c : Dev nD) (i : grid0.Coords) (arg1 : Memref sig .tc .smem S28x56 .f32) (harg1 : arg1.IsWhole) (arg2 : Memref sig .tc .vmem S64x3584 .bf16) (harg2 : arg2.IsWhole) (arg3 : Memref sig .tc .vmem S3584x512 .fp8e4m3) (harg3 : arg3.IsWhole) (arg4 : Memref sig .tc .vmem S64x512 .bf16) (harg4 : arg4.IsWhole) (arg5 : Memref sig .tc .vmem S64x3584 .fp8e4m3) (harg5 : arg5.IsWhole) (arg6 : Memref sig .tc .vmem S64x28 .f32) (harg6 : arg6.IsWhole) (arg7 : Memref sig .tc .vmem S64x3584 .f32) (harg7 : arg7.IsWhole) (hc : k0_cond1 i = 1#1)
    (x0 : Vec F S28x56 .f32) (x1 : Vec F S64x3584 .bf16) (x2 : Vec F S3584x512 .fp8e4m3) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (yV i x0 x2 (codesV x1) (sxbV x1)) ∗ owns (c : Thread nD τ) arg5 fullShare (codesV x1) ∗ owns (c : Thread nD τ) arg6 fullShare (scalesV x1) ∗ owns (c : Thread nD τ) arg7 fullShare (sxbV x1)) -∗ K ⟨⟩))
      ⊢ wp frame (wpE (defs₀ (F := F)) Variants.none c none) E (cc0__body i arg1 harg1 arg2 harg2 arg3 harg3 arg4 harg4 arg5 harg5 arg6 harg6 arg7 harg7) K := by
  rw [body_first (h := hc), wp_bind]
  iintro ⟨H1, H2, H3, H4, H5, H6, H7, Hk⟩
  iapply ((quantRun c i arg1 harg1 arg2 harg2 arg3 harg3 arg4 harg4 arg5 harg5 arg6 harg6 arg7 harg7 x1).2.2.2 E _)
  isplitl [H2]; · iexact H2
  isplitl [H5]; · iexact H5
  isplitl [H6]; · iexact H6
  isplitl [H7]; · iexact H7
  iintro ⟨H2, ⟨%f5, H5⟩, ⟨%f6, H6⟩, ⟨%f7, H7⟩⟩
  iapply ((prodRun c i arg1 harg1 arg2 harg2 arg3 harg3 arg4 harg4 arg5 harg5 arg6 harg6 arg7 harg7 x0 x2 (codesV x1) (sxbV x1)).2 E _)
  isplitl [H1]; · iexact H1
  isplitl [H3]; · iexact H3
  isplitl [H4]; · iexact H4
  isplitl [H5]
  · unfold owns; iexists _; isplitr
    swap; · iexact H5
    ipureintro; exact codes_left c i arg1 harg1 arg2 harg2 arg3 harg3 arg4 harg4 arg5 harg5 arg6 harg6 arg7 harg7 x1 _
  isplitl [H7]
  · unfold owns; iexists _; isplitr
    swap; · iexact H7
    ipureintro; exact sxb_left c i arg1 harg1 arg2 harg2 arg3 harg3 arg4 harg4 arg5 harg5 arg6 harg6 arg7 harg7 x1 _
  iintro ⟨H1, H3, ⟨%f4, H4⟩, H5, H7⟩
  iapply Hk
  isplitl [H1]; · iexact H1
  isplitl [H2]; · iexact H2
  isplitl [H3]; · iexact H3
  isplitl [H4]
  · unfold owns; iexists _; isplitr
    swap; · iexact H4
    ipureintro; exact y_left c i arg1 harg1 arg2 harg2 arg3 harg3 arg4 harg4 arg5 harg5 arg6 harg6 arg7 harg7 x0 x2 (codesV x1) (sxbV x1) _
  isplitl [H5]; · iexact H5
  isplitl [H6]
  · unfold owns; iexists _; isplitr
    swap; · iexact H6
    ipureintro; exact scales_left c i arg1 harg1 arg2 harg2 arg3 harg3 arg4 harg4 arg5 harg5 arg6 harg6 arg7 harg7 x1 _
  iexact H7

/-- The body at the other grid points: it leaves the block of the result computed from the codes and the broadcast
    scales it finds, and leaves those as they are. -/
theorem run_rest (c : Dev nD) (i : grid0.Coords) (arg1 : Memref sig .tc .smem S28x56 .f32) (harg1 : arg1.IsWhole) (arg2 : Memref sig .tc .vmem S64x3584 .bf16) (harg2 : arg2.IsWhole) (arg3 : Memref sig .tc .vmem S3584x512 .fp8e4m3) (harg3 : arg3.IsWhole) (arg4 : Memref sig .tc .vmem S64x512 .bf16) (harg4 : arg4.IsWhole) (arg5 : Memref sig .tc .vmem S64x3584 .fp8e4m3) (harg5 : arg5.IsWhole) (arg6 : Memref sig .tc .vmem S64x28 .f32) (harg6 : arg6.IsWhole) (arg7 : Memref sig .tc .vmem S64x3584 .f32) (harg7 : arg7.IsWhole) (hc : ¬ k0_cond1 i = 1#1)
    (x0 : Vec F S28x56 .f32) (x2 : Vec F S3584x512 .fp8e4m3) (x4 : Vec F S64x3584 .fp8e4m3) (x7 : Vec F S64x3584 .f32) (E : Set ℕ) (K : PUnit → sProp 𝕄) :
    iprop(owns (c : Thread nD τ) arg1 fullShare x0 ∗ owns (c : Thread nD τ) arg3 fullShare x2 ∗ (∃ d, owns (c : Thread nD τ) arg4 fullShare d) ∗ owns (c : Thread nD τ) arg5 fullShare x4 ∗ owns (c : Thread nD τ) arg7 fullShare x7
        ∗ (iprop(owns (c : Thread nD τ) arg1 fullShare x0 ∗ owns (c : Thread nD τ) arg3 fullShare x2 ∗ owns (c : Thread nD τ) arg4 fullShare (yV i x0 x2 x4 x7) ∗ owns (c : Thread nD τ) arg5 fullShare x4 ∗ owns (c : Thread nD τ) arg7 fullShare x7) -∗ K ⟨⟩))
      ⊢ wp frame (wpE (defs₀ (F := F)) Variants.none c none) E (cc0__body i arg1 harg1 arg2 harg2 arg3 harg3 arg4 harg4 arg5 harg5 arg6 harg6 arg7 harg7) K := by
  rw [body_rest (h := hc)]
  iintro ⟨H1, H3, H4, H5, H7, Hk⟩
  iapply ((prodRun c i arg1 harg1 arg2 harg2 arg3 harg3 arg4 harg4 arg5 harg5 arg6 harg6 arg7 harg7 x0 x2 x4 x7).2 E _)
  isplitl [H1]; · iexact H1
  isplitl [H3]; · iexact H3
  isplitl [H4]; · iexact H4
  isplitl [H5]; · iexact H5
  isplitl [H7]; · iexact H7
  iintro ⟨H1, H3, ⟨%f4, H4⟩, H5, H7⟩
  iapply Hk
  isplitl [H1]; · iexact H1
  isplitl [H3]; · iexact H3
  isplitl [H4]
  · unfold owns; iexists _; isplitr
    swap; · iexact H4
    ipureintro; exact y_left c i arg1 harg1 arg2 harg2 arg3 harg3 arg4 harg4 arg5 harg5 arg6 harg6 arg7 harg7 x0 x2 x4 x7 _
  isplitl [H5]; · iexact H5
  iexact H7

end Cert.KernelIdeal.Val

end
-- ==== Proof.Run.lean ====
/- The run of the kernel: what every array holds at the end. -/
module

public import proofs.«01_k».proof.Proof.Body
public import proofs.«01_k».proof.Proof.Gen.KernelIdeal.Frame
public import Idealize.ShloMosaic.Lib.Pipeline.TableIdle
public import Idealize.ShloMosaic.Lib.WordCmp

@[expose] public section

set_option maxRecDepth 65536
set_option synthInstance.maxSize 4096

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch condition, the idle points and the staging buffers -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl

/-- Each window's current staging memref at point `t`, spelled as the pipeline passes it (`bodyAt0`), and its wholeness. -/
abbrev ms0_0 (t : Fin cfg0.N) : Memref sig .tc .smem S28x56 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x3584 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x28 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S64x3584 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The proof data -/

/-- The first grid point. -/
abbrev t00 : Fin cfg0.N := ⟨0, by rw [show cfg0.N = 14 from N_0]; decide⟩

/-- The activations the kernel quantises: window 1's block at the first point. -/
abbrev xB (c : Dev nD) : Vec F S64x3584 .bf16 := iblk m c 1 t00

/-- The block of the result left at point `t`. -/
def yB (c : Dev nD) (t : Fin cfg0.N) : Vec F S64x512 .bf16 :=
  yV (grid0.coords t) (iblk m c 0 t) (iblk m c 2 t) (codesV (xB m c)) (sxbV (xB m c))

/-- The invariant between grid points: before the first the scratch holds anything, afterwards the broadcast scales. -/
def PhiS (c : Dev nD) : (n : ℕ) → n ≤ cfg0.N → sProp 𝕄
  | 0, _ => Pipeline.ΦA spec0 c
  | n + 1, hn => iprop(iprop(owns (c : Thread nD τ) scM0_0 fullShare (sxbV (xB m c))) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (sxbV (xB m c))) ∗ (∃ r, prngReg c r)) := rfl
theorem PhiS_pos (c : Dev nD) (n : ℕ) (h : n ≤ cfg0.N) (hz : n ≠ 0) :
    PhiS m c n h = iprop(iprop(owns (c : Thread nD τ) scM0_0 fullShare (sxbV (xB m c))) ∗ (∃ r, prngReg c r)) := by
  cases n with
  | zero => exact absurd rfl hz
  | succ n => rfl

/-- What the pipeline's arrays, staging buffers and scratch hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yB m c t
    | ⟨4, _⟩ => codesV (xB m c)
    | ⟨5, _⟩ => scalesV (xB m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yB m c t := by dsimp only [dats]
theorem after0_4 (c : Dev nD) (t : Fin cfg0.N) : (dats m 0 c).after 4 t = codesV (xB m c) := by dsimp only [dats]
theorem after0_5 (c : Dev nD) (t : Fin cfg0.N) : (dats m 0 c).after 5 t = scalesV (xB m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- After the first point the codes' and the scales' buffers hold what was stored there. -/
theorem fresh4 : ∀ t : Fin cfg0.N, t.val ≠ 0 → cfg0.fresh 4 t.val = false := by decide +kernel
theorem fresh5 : ∀ t : Fin cfg0.N, t.val ≠ 0 → cfg0.fresh 5 t.val = false := by decide +kernel
theorem before0_4 (c : Dev nD) (t : Fin cfg0.N) (ht : t.val ≠ 0) (d) : (dats m 0 c).before 4 t d = codesV (xB m c) := by
  rw [Pipeline.Dat.before_out_traj (dats m 0 c) 4 rfl (fun _ _ => rfl) (fun t _ _ _ => by rw [after0_4, after0_4]) t.val t rfl d,
    fresh4 t ht, if_neg Bool.false_ne_true, after0_4]
theorem before0_5 (c : Dev nD) (t : Fin cfg0.N) (ht : t.val ≠ 0) (d) : (dats m 0 c).before 5 t d = scalesV (xB m c) := by
  rw [Pipeline.Dat.before_out_traj (dats m 0 c) 5 rfl (fun _ _ => rfl) (fun t _ _ _ => by rw [after0_5, after0_5]) t.val t rfl d,
    fresh5 t ht, if_neg Bool.false_ne_true, after0_5]

/-- At the first point the codes' and scales' windows are live, so what is left is what was stored; -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]
/-- at the others they keep what they held. -/
theorem leaves4 (c : Dev nD) (t : Fin cfg0.N) (ht : t.val ≠ 0) :
    owns (c : Thread nD τ) (ms0_4 t) fullShare (codesV (xB m c)) ⊢ ((dats m 0 c).leavesExact 4 t : sProp 𝕄) := by
  unfold Dat.leavesExact
  cases cfg0.idle 4 (cfg0.grid.coords t) <;> cases (cfg0.win 4).flush t <;> dsimp only
  all_goals first
    | (rw [after0_4]; done)
    | simp only [before0_4 m c t ht]
      iintro H; iexists (codesV (xB m c)); iexact H
theorem leaves5 (c : Dev nD) (t : Fin cfg0.N) (ht : t.val ≠ 0) :
    owns (c : Thread nD τ) (ms0_5 t) fullShare (scalesV (xB m c)) ⊢ ((dats m 0 c).leavesExact 5 t : sProp 𝕄) := by
  unfold Dat.leavesExact
  cases cfg0.idle 5 (cfg0.grid.coords t) <;> cases (cfg0.win 5).flush t <;> dsimp only
  all_goals first
    | (rw [after0_5]; done)
    | simp only [before0_5 m c t ht]
      iintro H; iexists (scalesV (xB m c)); iexact H

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
/-- The body at any point, from what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_live m c 0 t rfl, leaves_live m c 1 t rfl, leaves_live m c 2 t rfl, leaves_live m c 3 t rfl, after0_0, after0_1, after0_2, after0_3]
  have hN : t.val < 14 := lt_of_lt_of_eq t.isLt (show cfg0.N = 14 from N_0)
  by_cases hz : t.val = 0
  · have hc : k0_cond1 (grid0.coords t) = 1#1 := (hcond0_0 t).mpr (by rw [hz])
    have ht : t = t00 := Fin.ext hz
    have hx : iblk m c 1 t = xB m c := by rw [ht]
    rw [leaves_live m c 4 t (by show (!(k0_cond1 (grid0.coords t) == 1#1)) = false; rw [hc]; rfl),
      leaves_live m c 5 t (by show (!(k0_cond1 (grid0.coords t) == 1#1)) = false; rw [hc]; rfl), after0_4, after0_5]
    rw [PhiS_castSucc m c t, PhiS_zero m c _ _ hz, PhiA0_eq]
    unfold yB
    rw [← hx]
    iintro ⟨⟨HS0, Hg⟩, Ho, ⟨%d0, H0⟩, ⟨%d1, H1⟩, ⟨%d2, H2⟩, ⟨%d3, H3⟩, ⟨%d4, H4⟩, ⟨%d5, H5⟩⟩
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc : ¬ k0_cond1 (grid0.coords t) = 1#1 := fun h => hz (by have := (hcond0_0 t).mp h; omega)
    rw [PhiS_castSucc m c t, PhiS_pos m c _ _ hz]
    simp only [before0_4 m c t hz, before0_5 m c t hz]
    unfold yB
    iintro ⟨⟨HS0, Hg⟩, Ho, ⟨%d0, H0⟩, ⟨%d1, H1⟩, ⟨%d2, H2⟩, ⟨%d3, H3⟩, ⟨%d4, H4⟩, ⟨%d5, H5⟩⟩
    iapply (run_rest c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc (iblk m c 0 t) (iblk m c 2 t) (codesV (xB m c)) (sxbV (xB m c)) Set.univ _)
    isplitl [H0]; · iexact H0
    isplitl [H2]; · iexact H2
    isplitl [H3]; · iexists _; iexact H3
    isplitl [H4]; · iexact H4
    isplitl [HS0]; · iexact HS0
    iintro ⟨H0, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · iapply (leaves4 m c t hz); iexact H4
    iapply (leaves5 m c t hz); iexact H5

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point the invariant gives it back. -/
theorem hout (c : Dev nD) : (dats m 0 c).Φ (Fin.last cfg0.N) ⊢ Pipeline.ΦA spec0 c := by
  have ht : (Fin.last cfg0.N).val ≠ 0 := by rw [Fin.val_last]; have : cfg0.N = 14 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## The run and the frame -/

set_option backward.isDefEq.respectTransparency.types false in
/-- Every run of the program terminates, with every array at what the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Val

end
-- ==== Proof.KernelValue.lean ====
/- What the kernel stores, on extended reals, index by index. -/
module

public import proofs.«01_k».proof.Proof.Scale
public import proofs.«01_k».proof.Proof.Run
public import Idealize.ShloMosaic.Lib.Pipeline.ValueKit
public import Idealize.ShloMosaic.Lib.Pointwise
public import Idealize.ShloMosaic.PureOps.Ideal.Laws

@[expose] public section

set_option maxRecDepth 65536

noncomputable section

namespace Cert.KernelIdeal.Val

open Cert.KernelIdeal Cert.KernelIdeal.Gen
open Idealize.ShloMosaic Idealize.ShloMosaic.TcCoe Idealize.ShloMosaic.Tactic Idealize.SL.Sem

/-- A block of activations, by row and channel. -/
def mx (x : S64x3584.Idx → EReal) (r : Fin 64) (c : Fin 3584) : EReal := x (ix2 r c)

/-- The lanes filled so far hold their group's largest magnitude, the others zero. -/
theorem amx_at (xf : FVec Ideal S64x3584 .f32) : ∀ (n : ℕ) (h : n ≤ 28) (j : S64x28.Idx),
    amx xf n h j = if (j 1).val < n then Cert.Scale.amaxS (mx xf) (j 0) (j 1) else (0 : EReal)
  | 0, _, j => by
    rw [if_neg (Nat.not_lt_zero _)]
    unfold amx
    pointwise []
  | n + 1, h, j => by
    unfold amx
    pointwise []
    have hw : IntOp.cmpi .eq (BitVec.ofNat 32 (j 1).val) (BitVec.ofNat 32 n) = if (j 1).val = n then 1#1 else 0#1 := by
      have hj : (j 1).val < 28 := (j 1).isLt
      have key : ∀ a b : Fin 28, IntOp.cmpi .eq (BitVec.ofNat 32 a.val) (BitVec.ofNat 32 b.val) = if a.val = b.val then 1#1 else 0#1 := by decide +kernel
      exact key ⟨(j 1).val, hj⟩ ⟨n, h⟩
    rw [hw, amx_at xf n (Nat.le_of_succ_le h) j]
    unfold Scalar.select
    by_cases e : (j 1).val = n
    · rw [if_pos e, if_pos (show (1#1 : BitVec 1) = 1 from rfl), if_pos (by omega)]
      unfold Cert.Scale.amaxS mx
      refine Finset.fold_congr fun k _ => ?_
      subst e
      rfl
    · rw [if_neg e, if_neg (by decide)]
      by_cases e2 : (j 1).val < n
      · rw [if_pos e2, if_pos (by omega)]
      · rw [if_neg e2, if_neg (by omega)]

/-- One step of the search at an index. -/
theorem fbit_at (v : FVec Ideal S64x28 .f32) (b f : ℕ) (w : IVec S64x28 32) (j : S64x28.Idx) (h : w j = BitVec.ofNat 32 f) :
    fbit v (BitVec.ofNat 32 b) w j = BitVec.ofNat 32 (Cert.Scale.step (v j) b f) := by
  rw [← Cert.Scale.step_word]
  pointwise [fbit]
  rw [h]

/-- The field found at an index. -/
theorem ffield_at (v : FVec Ideal S64x28 .f32) (j : S64x28.Idx) : ffield v j = BitVec.ofNat 32 (Cert.Scale.field (v j)) := by
  unfold ffield Cert.Scale.field
  exact fbit_at v 1 _ _ j <| fbit_at v 2 _ _ j <| fbit_at v 4 _ _ j <| fbit_at v 8 _ _ j <| fbit_at v 16 _ _ j <| fbit_at v 32 _ _ j <|
    fbit_at v 64 _ _ j <| fbit_at v 128 0 _ j rfl

/-- The exponent at an index. -/
theorem qexp_at (am : FVec Ideal S64x28 .f32) (j : S64x28.Idx) : qexp am j = Cert.Scale.expo (BitVec.ofNat 32 (Cert.Scale.fieldOf (am j))) := by
  have h : qexp am j = if (am j : EReal) = 0 then 0#32 else Cert.Scale.expo (BitVec.ofNat 32 (Cert.Scale.field ((am j : EReal) * Ideal.ofBits .f32 0x3B124925#32))) := by
    pointwise [qexp]
    rw [ffield_at]
    rfl
  rw [h]
  unfold Cert.Scale.fieldOf
  split
  · rfl
  · rfl

/-- A power of two at an index. -/
theorem qpow_pw (e : IVec S64x28 32) (j : S64x28.Idx) : qpow (F := Ideal) e j = Cert.Scale.pw (e j) := by
  pointwise [qpow, qhalf]
  rfl
/-- The scale from a largest magnitude, -/
theorem qpow_at (am : FVec Ideal S64x28 .f32) (j : S64x28.Idx) : qpow (F := Ideal) (qexp am) j = Cert.Scale.scale (am j) := by
  rw [qpow_pw, qexp_at]
  exact Cert.Scale.pw_expo _ (Cert.Scale.fieldOf_le _)
/-- and its inverse. -/
theorem qpow_neg_at (am : FVec Ideal S64x28 .f32) (j : S64x28.Idx) :
    qpow (F := Ideal) (subi (broadcast S64x28 0#32) (qexp am)) j = Cert.Scale.inv (am j) := by
  rw [qpow_pw]
  have h : subi (broadcast S64x28 0#32) (qexp am) j = IntOp.subi 0#32 (Cert.Scale.expo (BitVec.ofNat 32 (Cert.Scale.fieldOf (am j)))) := by
    rw [← qexp_at]; rfl
  rw [h]
  exact Cert.Scale.pw_neg _ (Cert.Scale.fieldOf_le _)

theorem pay2_eq (x : Vec Ideal S64x3584 .bf16) : mx (k0_pay2 x) = mx x := by
  funext r c
  unfold mx
  pointwise [k0_pay2]

/-- The scales at an index. -/
theorem qscale_at (x : Vec Ideal S64x3584 .bf16) (j : S64x28.Idx) : qscale (F := Ideal) x j = Cert.Scale.scaleS (mx x) (j 0) (j 1) := by
  unfold qscale
  rw [qpow_at, amx_at, if_pos (show (j 1).val < 28 from (j 1).isLt), pay2_eq]; rfl
theorem qinv_at (x : Vec Ideal S64x3584 .bf16) (j : S64x28.Idx) : qinv (F := Ideal) x j = Cert.Scale.inv (Cert.Scale.amaxS (mx x) (j 0) (j 1)) := by
  unfold qinv
  rw [qpow_neg_at, amx_at, if_pos (show (j 1).val < 28 from (j 1).isLt), pay2_eq]

/-- Where group `g`'s rectangle lies. -/
theorem gRect_emb (g : Fin 28) (z : S64x128.Idx) : (gRect g).emb z = ix2 (z 0) ⟨128 * g.val + (z 1).val, by have := (z 1).isLt; change (z 1).val < 128 at this; omega⟩ := by
  funext a
  apply Fin.ext
  unfold gRect
  rw [ValueKit.rect_emb_unit_val]
  fin_cases a
  · exact Nat.zero_add _
  · rfl

/-- The codes, by row and channel; -/
def codesF (x : Vec Ideal S64x3584 .bf16) : Vec Ideal S64x3584 .fp8e4m3 := fun y => Cert.Scale.codeS (mx x) (y 0) (y 1)
/-- the scales, by row and group; -/
def scalesF (x : Vec Ideal S64x3584 .bf16) : Vec Ideal S64x28 .f32 := fun y => Cert.Scale.scaleS (mx x) (y 0) (y 1)
/-- the scales, by row and channel. -/
def sxbF (x : Vec Ideal S64x3584 .bf16) : Vec Ideal S64x3584 .f32 := fun y =>
  Cert.Scale.scaleS (mx x) (y 0) ⟨(y 1).val / 128, by have : (y 1).val < 3584 := (y 1).isLt; omega⟩

/-- The codes stored are these, -/
theorem codesV_eq (x : Vec Ideal S64x3584 .bf16) : codesV x = codesF x := by
  funext j
  unfold codesV
  refine View.canon_apply_of_pieces (codesF x) _ ?_ j (cover_g _ j)
  have key : ∀ (g : Fin 28) (z : S64x128.Idx), qcode x g z = codesF x ((gRect g).emb z) := ?_
  · intro p hp z
    obtain ⟨g, -, rfl⟩ := List.mem_map.1 hp
    exact key g z
  intro g z
  rw [gRect_emb]
  have hz : (z 1).val < 128 := (z 1).isLt
  pointwise [qcode, k0_pay2]
  rw [qinv_at]
  unfold codesF Cert.Scale.codeS mx
  have e : g = ⟨(128 * g.val + (z 1).val) / 128, by omega⟩ := Fin.ext (by show g.val = (128 * g.val + (z 1).val) / 128; omega)
  exact congrArg (fun g' => min _ (max _ (_ * Cert.Scale.inv (Cert.Scale.amaxS _ _ g')))) e

/-- the scales stored are these, -/
theorem scalesV_eq (x : Vec Ideal S64x3584 .bf16) : scalesV x = scalesF x := by
  funext j
  unfold scalesV
  refine View.canon_apply_of_pieces (scalesF x) _ ?_ j (cover_s _ j)
  intro p hp z
  obtain rfl := List.mem_singleton.1 hp
  have e : (Rect.unit (s := S64x28) ![0, 0] S64x28.size inb_S64x28_S64x28_0_0).emb z = z := by
    funext a; apply Fin.ext
    rw [ValueKit.rect_emb_unit_val]
    fin_cases a <;> exact Nat.zero_add _
  rw [e]
  exact qscale_at x z

/-- and so are the broadcast scales kept. -/
theorem sxbV_eq (x : Vec Ideal S64x3584 .bf16) : sxbV x = sxbF x := by
  funext j
  unfold sxbV
  refine View.canon_apply_of_pieces (sxbF x) _ ?_ j (cover_g _ j)
  have key : ∀ (g : Fin 28) (z : S64x128.Idx), qsxb x g z = sxbF x ((gRect g).emb z) := ?_
  · intro p hp z
    obtain ⟨g, -, rfl⟩ := List.mem_map.1 hp
    exact key g z
  intro g z
  rw [gRect_emb]
  have hz : (z 1).val < 128 := (z 1).isLt
  pointwise [qsxb]
  rw [qscale_at]
  have e : g = ⟨(128 * g.val + (z 1).val) / 128, by omega⟩ := Fin.ext (by show g.val = (128 * g.val + (z 1).val) / 128; omega)
  exact congrArg (fun g' => Cert.Scale.scaleS _ _ g') e

/-- One step of the products at an index. -/
theorem hstep_at (acc : FVec Ideal S64x256 .f32) (cb : Vec Ideal S64x128 .fp8e4m3) (wb : Vec Ideal S128x256 .fp8e4m3) (sx : Vec Ideal S64x128 .f32) (s0 s1 : EReal) (j : S64x256.Idx) :
    hstep (F := Ideal) acc cb wb sx s0 s1 j
      = (acc j : EReal) + (∑ k : Fin 128, (cb (ix2 (j 0) k) : EReal) * wb (ix2 k (j 1))) * sx (ix2 (j 0) ⟨(j 1).val % 128, Nat.mod_lt _ (by omega)⟩)
          * (if (j 1).val < 128 then s0 else s1) := by
  have hj : (j 1).val < 256 := (j 1).isLt
  pointwise [hstep]
  split
  · next h =>
    have e : (⟨(j 1).val, h⟩ : Fin 128) = ⟨(j 1).val % 128, Nat.mod_lt _ (by omega)⟩ := Fin.ext (Nat.mod_eq_of_lt h).symm
    rw [← e]
  · next h =>
    have e : (⟨(j 1).val - 128, by omega⟩ : Fin 128) = ⟨(j 1).val % 128, Nat.mod_lt _ (by omega)⟩ := Fin.ext (by show (j 1).val - 128 = (j 1).val % 128; omega)
    have e2 : ∀ h, (⟨128 + ((j 1).val - 128), h⟩ : Fin 256) = j 1 := fun _ => Fin.ext (by show 128 + ((j 1).val - 128) = (j 1).val; omega)
    rw [← e]
    simp only [e2]

/-- What group `g` adds at an index. -/
def hterm (cb : Fin 28 → Vec Ideal S64x128 .fp8e4m3) (wb : Fin 28 → Vec Ideal S128x256 .fp8e4m3) (sx : Fin 28 → Vec Ideal S64x128 .f32) (s0 s1 : Fin 28 → EReal) (j : S64x256.Idx) (g : Fin 28) : EReal :=
  (∑ k : Fin 128, (cb g (ix2 (j 0) k) : EReal) * wb g (ix2 k (j 1))) * sx g (ix2 (j 0) ⟨(j 1).val % 128, Nat.mod_lt _ (by omega)⟩)
    * (if (j 1).val < 128 then s0 g else s1 g)

/-- The running sum is the sum of the groups so far. -/
theorem hacc_at (cb : Fin 28 → Vec Ideal S64x128 .fp8e4m3) (wb : Fin 28 → Vec Ideal S128x256 .fp8e4m3) (sx : Fin 28 → Vec Ideal S64x128 .f32) (s0 s1 : Fin 28 → EReal) (j : S64x256.Idx) :
    ∀ (n : ℕ) (h : n ≤ 28), hacc (F := Ideal) cb wb sx s0 s1 n h j = ∑ g : Fin n, hterm cb wb sx s0 s1 j (Fin.castLE h g)
  | 0, _ => by
    unfold hacc
    pointwise []
    rfl
  | n + 1, h => by
    unfold hacc
    rw [hstep_at, hacc_at cb wb sx s0 s1 j n (Nat.le_of_succ_le h)]
    exact (Fin.sum_univ_castSucc (fun g : Fin (n + 1) => hterm cb wb sx s0 s1 j (Fin.castLE h g))).symm

/-- Where one half's rectangle lies. -/
theorem hRect_emb (hf : Fin 2) (z : S64x256.Idx) : (hRect hf).emb z = ix2 (z 0) ⟨256 * hf.val + (z 1).val, by have := (z 1).isLt; change (z 1).val < 256 at this; omega⟩ := by
  funext a
  apply Fin.ext
  unfold hRect
  rw [ValueKit.rect_emb_unit_val]
  fin_cases a
  · exact Nat.zero_add _
  · rfl

/-- One weight scale, by its group and its output block. -/
theorem wsV_at (i : grid0.Coords) (x0 : Vec Ideal S28x56 .f32) (hf b : Fin 2) (g : Fin 28) :
    wsV i x0 hf b g = x0 (ix2 g ⟨4 * (i 0).val + 2 * hf.val + b.val, by have : (i 0).val < 14 := (i 0).isLt; omega⟩) := by
  unfold wsV
  refine View.ld_unit_apply_of x0 _ _ _ _ _ fun a => ?_
  fin_cases a
  · show g.val = g.val + _
    rfl
  · show _ = (Scalar.indexCast _).toNat + _
    rw [soff_col]; rfl

/-- What group `g` adds to a block of the result at row `r` and the block's column `q`. -/
def blkTerm (i : grid0.Coords) (x0 : Vec Ideal S28x56 .f32) (x2 : Vec Ideal S3584x512 .fp8e4m3) (X : Fin 64 → Fin 3584 → EReal) (r : Fin 64) (q : Fin 512) (g : Fin 28) : EReal :=
  (∑ k : Fin 128, Cert.Scale.codeS X r ⟨128 * g.val + k.val, by omega⟩ * x2 (ix2 ⟨128 * g.val + k.val, by omega⟩ q)) * Cert.Scale.scaleS X r g
    * x0 (ix2 g ⟨4 * (i 0).val + q.val / 128, by have : (i 0).val < 14 := (i 0).isLt; omega⟩)

/-- The activation function at an index. -/
theorem gelu_at (h : FVec Ideal S64x256 .f32) (j : S64x256.Idx) : gelu (F := Ideal) h j = Cert.Scale.geluS (h j) := by
  pointwise [gelu]
  rfl

/-- The sum for one half of a block, at an index. -/
theorem hV_at (i : grid0.Coords) (x0 : Vec Ideal S28x56 .f32) (x : Vec Ideal S64x3584 .bf16) (x2 : Vec Ideal S3584x512 .fp8e4m3) (hf : Fin 2) (z : S64x256.Idx) :
    hV (F := Ideal) i x0 x2 (codesF x) (sxbF x) hf z
      = ∑ g : Fin 28, blkTerm i x0 x2 (mx x) (z 0) ⟨256 * hf.val + (z 1).val, by have := (z 1).isLt; change (z 1).val < 256 at this; omega⟩ g := by
  have hz : (z 1).val < 256 := (z 1).isLt
  refine (hacc_at _ _ _ _ _ z 28 le_rfl).trans ?_
  refine Finset.sum_congr rfl fun g _ => ?_
  have hg : Fin.castLE (le_refl 28) g = g := rfl
  rw [hg]
  unfold hterm blkTerm
  congr 1
  · congr 1
    · refine Finset.sum_congr rfl fun k _ => ?_
      congr 1
      · exact View.ld_unit_apply_of (codesF x) _ _ _ _ (ix2 (z 0) ⟨128 * g.val + k.val, by omega⟩) fun a => by
          fin_cases a
          · exact (Nat.zero_add _).symm
          · rfl
      · exact View.ld_unit_apply_of x2 _ _ _ _ (ix2 ⟨128 * g.val + k.val, by omega⟩ ⟨256 * hf.val + (z 1).val, by omega⟩) fun a => by
          fin_cases a <;> rfl
    · have hq : (z 1).val % 128 < 128 := Nat.mod_lt _ (by omega)
      refine (View.ld_unit_apply_of (sxbF x) _ _ _ _ (ix2 (z 0) ⟨128 * g.val + (z 1).val % 128, by omega⟩) fun a => by
          fin_cases a
          · exact (Nat.zero_add _).symm
          · rfl).trans ?_
      exact congrArg (fun g' => Cert.Scale.scaleS _ _ g') (Fin.ext (by show (128 * g.val + (z 1).val % 128) / 128 = g.val; omega))
  · split
    · rw [wsV_at]
      exact congrArg (fun q => x0 (ix2 g q)) (Fin.ext (by show 4 * (i 0).val + 2 * hf.val + 0 = 4 * (i 0).val + (256 * hf.val + (z 1).val) / 128; omega))
    · rw [wsV_at]
      exact congrArg (fun q => x0 (ix2 g q)) (Fin.ext (by show 4 * (i 0).val + 2 * hf.val + 1 = 4 * (i 0).val + (256 * hf.val + (z 1).val) / 128; omega))

/-- A block of the result, at an index. -/
theorem yV_at (i : grid0.Coords) (x0 : Vec Ideal S28x56 .f32) (x : Vec Ideal S64x3584 .bf16) (x2 : Vec Ideal S3584x512 .fp8e4m3) (j : S64x512.Idx) :
    yV (F := Ideal) i x0 x2 (codesF x) (sxbF x) j = Cert.Scale.geluS (∑ g : Fin 28, blkTerm i x0 x2 (mx x) (j 0) (j 1) g) := by
  unfold yV
  let G : Vec Ideal S64x512 .bf16 := fun j => Cert.Scale.geluS (∑ g : Fin 28, blkTerm i x0 x2 (mx x) (j 0) (j 1) g)
  refine View.canon_apply_of_pieces G _ ?_ j (cover_h _ j)
  have key : ∀ (hf : Fin 2) (z : S64x256.Idx), gelu (F := Ideal) (hV i x0 x2 (codesF x) (sxbF x) hf) z = G ((hRect hf).emb z) := by
    intro hf z
    rw [hRect_emb, gelu_at, hV_at]
    rfl
  intro p hp z
  obtain ⟨g, -, rfl⟩ := List.mem_map.1 hp
  exact key g z

end Cert.KernelIdeal.Val

end
-- ==== Proof.KernelArrays.lean ====
/- The three result arrays that the kernel leaves, on extended reals. -/
module

public import proofs.«01_k».proof.Proof.KernelValue
public import Idealize.ShloMosaic.Lib.Pipeline.ValueKit
public import Idealize.ShloMosaic.Lib.Pointwise
public import Idealize.ShloMosaic.PureOps.Ideal.Laws

@[expose] public section

set_option maxRecDepth 65536

noncomputable section

namespace Cert.KernelIdeal.Val

open Cert.KernelIdeal Cert.KernelIdeal.Gen
open Idealize.ShloMosaic Idealize.ShloMosaic.TcCoe Idealize.ShloMosaic.Tactic Idealize.SL.Sem

section
variable (m : (ℓ : Loc nD τ sig) → Buf (Elt Ideal) ℓ) (ρ : Dev nD → PrngReg)

/-- The activations as the kernel holds them: the argument re-laid as rows of channels. -/
def xArg (c : Dev nD) : Vec Ideal S64x3584 .bf16 := shapeCast S64x3584 (m ((c : Thread nD τ).loc main_arg0)) shapeCasts_S64x1x3584_S64x3584

theorem V_main_v0 (c : Dev nD) : V m c main_v0 = xArg m c := rfl

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, t.val] := (by decide +kernel : ∀ t : Fin grid0.N, win0_2.index t = ![0, t.val])
theorem idx3 : ∀ t : Fin cfg0.N, win0_3.index t = ![0, t.val] := (by decide +kernel : ∀ t : Fin grid0.N, win0_3.index t = ![0, t.val])

theorem iblk0_at (c : Dev nD) (t : Fin cfg0.N) (a : Fin 28) (b : Fin 56) : iblk m c 0 t (ix2 a b) = m ((c : Thread nD τ).loc main_arg2) (ix2 a b) := by
  blk_ext [iblk, V_main_arg2, idx0 t]
theorem xB_eq (c : Dev nD) : xB m c = xArg m c := by
  funext j
  blk_ext [iblk, V_main_v0, idx1 t00]
theorem iblk2_at (c : Dev nD) (t : Fin cfg0.N) (a : Fin 3584) (b : Fin 512) :
    iblk m c 2 t (ix2 a b) = m ((c : Thread nD τ).loc main_arg1) (ix2 a ⟨512 * t.val + b.val, by have : t.val < 14 := Nat.lt_of_lt_of_eq t.isLt N_0; omega⟩) := by
  blk_ext [iblk, V_main_arg1, idx2 t]
/-- The activations by row and channel. -/
def X (c : Dev nD) : Fin 64 → Fin 3584 → EReal := mx (xArg m c)
/-- The weight codes by input and output channel. -/
def W (c : Dev nD) (k : Fin 3584) (n : Fin 7168) : EReal := m ((c : Thread nD τ).loc main_arg1) (ix2 k n)
/-- The weight scales by group and output block. -/
def S (c : Dev nD) (g : Fin 28) (b : Fin 56) : EReal := m ((c : Thread nD τ).loc main_arg2) (ix2 g b)

/-- The result the kernel leaves, -/
def yF (c : Dev nD) : Vec Ideal S64x7168 .bf16 := fun j => Cert.Scale.yS (X m c) (W m c) (S m c) (j 0) (j 1)

theorem coords0 (t : Fin cfg0.N) : (grid0.coords t 0).val = t.val := by
  have ht : t.val < 14 := Nat.lt_of_lt_of_eq t.isLt N_0
  have e0 : (grid0.coords t 0).val = t.val / 1 % 14 := Pipeline.Grid.coords_val t 0 (by decide) rfl
  omega

/-- A block of the result, as left at point `t`. -/
theorem yB_at (c : Dev nD) (t : Fin cfg0.N) (j : S64x512.Idx) :
    yB m c t j = yF m c (ix2 (j 0) ⟨512 * t.val + (j 1).val, by
      have : t.val < 14 := Nat.lt_of_lt_of_eq t.isLt N_0
      have : (j 1).val < 512 := (j 1).isLt
      omega⟩) := by
  have ht : t.val < 14 := Nat.lt_of_lt_of_eq t.isLt N_0
  have hj : (j 1).val < 512 := (j 1).isLt
  unfold yB
  rw [codesV_eq, sxbV_eq, yV_at, xB_eq]
  unfold yF Cert.Scale.yS
  refine congrArg Cert.Scale.geluS (Finset.sum_congr rfl fun g _ => ?_)
  unfold blkTerm Cert.Scale.termS
  congr 1
  · congr 1
    refine Finset.sum_congr rfl fun k _ => ?_
    congr 1
    exact iblk2_at m c t _ _
  · refine (iblk0_at m c t _ _).trans ?_
    refine congrArg (fun b => m ((c : Thread nD τ).loc main_arg2) (ix2 g b)) (Fin.ext ?_)
    show 4 * (grid0.coords t 0).val + (j 1).val / 128 = (512 * t.val + (j 1).val) / 128
    rw [coords0]; omega

theorem final3 (c : Dev nD) : (dats m 0 c).arrAt 3 cfg0.N = yF m c := by
  refine (dats m 0 c).arrAt_eq_of_covers 3 _ (by decide +kernel) fun t hf y => ?_
  blk_simp
  rw [after0_3, yB_at]
  refine congrArg (yF m c) ?_
  blk_ext [idx3 t]
theorem final4 (c : Dev nD) : (dats m 0 c).arrAt 4 cfg0.N = codesF (xArg m c) := by
  refine (dats m 0 c).arrAt_eq_of_after_last 4 t0_13 (by decide +kernel) _ fun j => ?_
  blk_simp
  rw [after0_4, codesV_eq, xB_eq]
theorem final5 (c : Dev nD) : (dats m 0 c).arrAt 5 cfg0.N = scalesF (xArg m c) := by
  refine (dats m 0 c).arrAt_eq_of_after_last 5 t0_13 (by decide +kernel) _ fun j => ?_
  blk_simp
  rw [after0_5, scalesV_eq, xB_eq]

/-- The kernel's run: the result, the codes and the scales are left in the three result arrays, and the arguments are unchanged. -/
theorem run : θ_run defs (onTc (τ := τ) (main (F := Ideal))) ⟨m, fun _ => 0, ρ⟩ (fun r => ∀ c : Dev nD,
      r.2.mem ((c : Thread nD τ).loc main_v1_0) = yF m c
      ∧ r.2.mem ((c : Thread nD τ).loc main_v1_1) = codesF (xArg m c)
      ∧ r.2.mem ((c : Thread nD τ).loc main_v1_2) = scalesF (xArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c)))⟩)
    (run_main m ρ)
end

end Cert.KernelIdeal.Val

end
-- ==== Proof.ReferenceValue.lean ====
/- The three result arrays that the reference leaves, on extended reals. -/
module

public import proofs.«01_k».proof.Proof.Scale
public import proofs.«01_k».proof.Proof.Gen.ReferenceIdeal.Value
public import Idealize.ShloMosaic.Lib.Pipeline.ValueKit
public import Idealize.ShloMosaic.Lib.Pointwise
public import Idealize.ShloMosaic.PureOps.Ideal.Laws

@[expose] public section

set_option maxRecDepth 65536

noncomputable section

namespace Cert.ReferenceIdeal.Val

open Cert.ReferenceIdeal Cert.ReferenceIdeal.Gen
open Idealize.ShloMosaic Idealize.ShloMosaic.TcCoe Idealize.ShloMosaic.Tactic Idealize.SL.Sem

/-- A block of activations, by row and channel. -/
def mx (x : S64x3584.Idx → EReal) (r : Fin 64) (c : Fin 3584) : EReal := x (ix2 r c)

/-- A load of a whole buffer is the buffer. -/
theorem ld_x (x : Vec Ideal S64x3584 .bf16) : View.ld x r0_0 = x := by
  funext j
  exact View.ld_unit_apply_of x _ _ _ j j fun a => by fin_cases a <;> exact (Nat.zero_add _).symm
theorem ld_w (x : Vec Ideal S3584x7168 .fp8e4m3) : View.ld x r0_1 = x := by
  funext j
  exact View.ld_unit_apply_of x _ _ _ j j fun a => by fin_cases a <;> exact (Nat.zero_add _).symm
theorem ld_s (x : Vec Ideal S28x56 .f32) : View.ld x r0_2 = x := by
  funext j
  exact View.ld_unit_apply_of x _ _ _ j j fun a => by fin_cases a <;> exact (Nat.zero_add _).symm

/-- The reference's exponents at an index. -/
theorem pay4_at (x : Vec Ideal S64x3584 .bf16) (j : S64x28.Idx) :
    k0_pay4 (F := Ideal) x j = (((Cert.Scale.ex (Cert.Scale.fieldOf (Cert.Scale.amaxS (mx x) (j 0) (j 1))) : ℤ) : ℝ) : EReal) := by
  rw [← Cert.Scale.exponent_ref]
  have hj : (j 1).val < 28 := (j 1).isLt
  have e : Finset.fold max (Ideal.ofBits .f32 4286578688#32) (fun k : Fin 128 => FloatOps.absf (F := Ideal) (φ := .f32) (x (ix2 (j 0) ⟨(j 1).val * 128 + k.val, by omega⟩))) Finset.univ
      = Cert.Scale.amaxS (mx x) (j 0) (j 1) := by
    unfold Cert.Scale.amaxS mx
    refine Finset.fold_congr fun k _ => ?_
    exact congrArg (fun c => FloatOps.absf (F := Ideal) (φ := .f32) (x (ix2 (j 0) c))) (Fin.ext (by show (j 1).val * 128 + k.val = 128 * (j 1).val + k.val; omega))
  rw [← e]
  pointwise [k0_pay4, k0_pay3]

/-- The reference's scales at an index. -/
theorem pay5_at (x : Vec Ideal S64x3584 .bf16) (j : S64x28.Idx) : k0_pay5 (F := Ideal) x j = Cert.Scale.scaleS (mx x) (j 0) (j 1) := by
  unfold Cert.Scale.scaleS
  rw [← Cert.Scale.exp2_scale, ← pay4_at]
  rfl

/-- The reference's codes at a group and a channel of it. -/
theorem pay6_at (x : Vec Ideal S64x3584 .bf16) (r : Fin 64) (g : Fin 28) (k : Fin 128) :
    k0_pay6 (F := Ideal) x (ix3 r g k) = Cert.Scale.codeS (mx x) r ⟨128 * g.val + k.val, by omega⟩ := by
  have h : (FloatOps.exp2 (F := Ideal) (φ := .f32) ((0 : EReal) - k0_pay4 (F := Ideal) x (ix2 r g)) : EReal) = Cert.Scale.inv (Cert.Scale.amaxS (mx x) r ⟨(128 * g.val + k.val) / 128, by omega⟩) := by
    have e : (⟨(128 * g.val + k.val) / 128, by omega⟩ : Fin 28) = g := Fin.ext (by show (128 * g.val + k.val) / 128 = g.val; omega)
    rw [e, ← Cert.Scale.exp2_inv]
    exact congrArg (fun a : EReal => (FloatOps.exp2 (F := Ideal) (φ := .f32) ((0 : EReal) - a) : EReal)) (pay4_at x (ix2 r g))
  have e2 : (⟨g.val * 128 + k.val, by omega⟩ : Fin 3584) = ⟨128 * g.val + k.val, by omega⟩ := Fin.ext (by show g.val * 128 + k.val = 128 * g.val + k.val; omega)
  unfold Cert.Scale.codeS
  rw [← h, ← e2]
  generalize hv : k0_pay4 (F := Ideal) x = v
  unfold k0_pay6
  rw [hv]
  pointwise [k0_pay3]
  rfl

/-- The reference's codes at an index. -/
theorem pay2_at (x : Vec Ideal S64x3584 .bf16) (j : S64x3584.Idx) :
    k0_pay2 (F := Ideal) (k0_pay6 x) j = Cert.Scale.codeS (mx x) (j 0) (j 1) := by
  have hj : (j 1).val < 3584 := (j 1).isLt
  have e : k0_pay2 (F := Ideal) (k0_pay6 x) j = k0_pay6 (F := Ideal) x (ix3 (j 0) ⟨(j 1).val / 128, by omega⟩ ⟨(j 1).val % 128, Nat.mod_lt _ (by omega)⟩) := by
    generalize k0_pay6 (F := Ideal) x = v
    pointwise [k0_pay2]
  refine e.trans ((pay6_at x _ _ _).trans ?_)
  exact congrArg (Cert.Scale.codeS (mx x) (j 0)) (Fin.ext (by show 128 * ((j 1).val / 128) + (j 1).val % 128 = (j 1).val; omega))

/-- What group `g` adds to the reference's result at an index. -/
theorem term_at (x : Vec Ideal S64x3584 .bf16) (w : Vec Ideal S3584x7168 .fp8e4m3) (s : Vec Ideal S28x56 .f32) (j : S64x7168.Idx) (g : Fin 28) :
    (∑ k : Fin 128, (k0_pay6 (F := Ideal) x (ix3 (j 0) g k) : EReal) * w (ix2 ⟨g.val * 128 + k.val, by omega⟩ (j 1))) * k0_pay5 (F := Ideal) x (ix2 (j 0) g)
      * s (ix2 g ⟨(j 1).val / 128, by have : (j 1).val < 7168 := (j 1).isLt; omega⟩) = Cert.Scale.termS (mx x) (fun k n => w (ix2 k n)) (fun g b => s (ix2 g b)) (j 0) (j 1) g := by
  unfold Cert.Scale.termS
  refine congrArg₂ (fun a b : EReal => a * b) (congrArg₂ (fun a b : EReal => a * b) ?_ ?_) rfl
  · refine Finset.sum_congr rfl fun k _ => ?_
    refine congrArg₂ (fun a b : EReal => a * b) (pay6_at x _ _ _) ?_
    exact congrArg (fun q => w (ix2 q (j 1))) (Fin.ext (by show g.val * 128 + k.val = 128 * g.val + k.val; omega))
  · exact pay5_at x _

/-- The cube in the activation function, bracketed the other way. -/
theorem gelu_assoc (h : EReal) :
    h * (Ideal.ofBits .f32 0x3F000000#32 * (1 + Ideal.tanh (Ideal.ofBits .f32 0x3F4C422A#32 * (h + Ideal.ofBits .f32 0x3D372713#32 * (h * (h * h)))))) = Cert.Scale.geluS h := by
  unfold Cert.Scale.geluS
  rw [mul_assoc h h h]

/-- The reference's result at an index. -/
theorem pay1_at (x : Vec Ideal S64x3584 .bf16) (w : Vec Ideal S3584x7168 .fp8e4m3) (s : Vec Ideal S28x56 .f32) (j : S64x7168.Idx) :
    k0_pay1 (F := Ideal) (k0_pay5 x) (k0_pay6 x) w s j = Cert.Scale.yS (mx x) (fun k n => w (ix2 k n)) (fun g b => s (ix2 g b)) (j 0) (j 1) := by
  unfold Cert.Scale.yS
  rw [← Finset.sum_congr rfl fun g _ => term_at x w s j g]
  generalize k0_pay5 (F := Ideal) x = v33
  generalize k0_pay6 (F := Ideal) x = v44
  pointwise [k0_pay1]
  exact gelu_assoc _

section
variable (m : (ℓ : Loc nD τ sig) → Buf (Elt Ideal) ℓ) (ρ : Dev nD → PrngReg)

/-- The activations as the reference holds them: the argument re-laid as rows of channels. -/
def xArg (c : Dev nD) : Vec Ideal S64x3584 .bf16 := shapeCast S64x3584 (m ((c : Thread nD τ).loc main_arg0)) shapeCasts_S64x1x3584_S64x3584

theorem V_main_v0 (c : Dev nD) : V m c main_v0 = xArg m c := rfl

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])

theorem iblk0_eq (c : Dev nD) (t : Fin cfg0.N) : iblk m c 0 t = xArg m c := by
  funext j
  blk_ext [iblk, V_main_v0, idx0 t]
theorem iblk1_eq (c : Dev nD) (t : Fin cfg0.N) : iblk m c 1 t = m ((c : Thread nD τ).loc main_arg1) := by
  funext j
  blk_ext [iblk, V_main_arg1, idx1 t]
theorem iblk2_eq (c : Dev nD) (t : Fin cfg0.N) : iblk m c 2 t = m ((c : Thread nD τ).loc main_arg2) := by
  funext j
  blk_ext [iblk, V_main_arg2, idx2 t]

/-- The three results, as arrays. -/
def yF (c : Dev nD) : Vec Ideal S64x7168 .bf16 := fun j =>
  Cert.Scale.yS (mx (xArg m c)) (fun k n => m ((c : Thread nD τ).loc main_arg1) (ix2 k n)) (fun g b => m ((c : Thread nD τ).loc main_arg2) (ix2 g b)) (j 0) (j 1)
def codesF (c : Dev nD) : Vec Ideal S64x3584 .fp8e4m3 := fun j => Cert.Scale.codeS (mx (xArg m c)) (j 0) (j 1)
def scalesF (c : Dev nD) : Vec Ideal S64x28 .f32 := fun j => Cert.Scale.scaleS (mx (xArg m c)) (j 0) (j 1)

theorem zero2 : (![0, 0] : Fin 2 → ℕ) = fun _ => 0 := by funext a; fin_cases a <;> rfl

theorem final3 (c : Dev nD) : (dats m 0 c).arrAt 3 cfg0.N = yF m c := by
  refine (dats m 0 c).arrAt_eq_of_after_last 3 t0_0 (by decide +kernel) _ fun j => ?_
  blk_simp
  rw [after0_3, iblk0_eq, iblk1_eq, iblk2_eq]
  unfold out0_3 k0_pay7 k0_pay8
  rw [View.canon_unit_zero zero2, ld_x, ld_w, ld_s]
  exact pay1_at _ _ _ j
theorem final4 (c : Dev nD) : (dats m 0 c).arrAt 4 cfg0.N = codesF m c := by
  refine (dats m 0 c).arrAt_eq_of_after_last 4 t0_0 (by decide +kernel) _ fun j => ?_
  blk_simp
  rw [after0_4, iblk0_eq]
  unfold out0_4 k0_pay8
  rw [View.canon_unit_zero zero2, ld_x]
  exact pay2_at _ j
theorem final5 (c : Dev nD) : (dats m 0 c).arrAt 5 cfg0.N = scalesF m c := by
  refine (dats m 0 c).arrAt_eq_of_after_last 5 t0_0 (by decide +kernel) _ fun j => ?_
  blk_simp
  rw [after0_5, iblk0_eq]
  unfold out0_5 k0_pay7
  rw [View.canon_unit_zero zero2, ld_x]
  exact pay5_at _ j

/-- The reference's run: the result, the codes and the scales are left in the three result arrays, and the arguments are unchanged. -/
theorem run : θ_run defs (onTc (τ := τ) (main (F := Ideal))) ⟨m, fun _ => 0, ρ⟩ (fun r => ∀ c : Dev nD,
      r.2.mem ((c : Thread nD τ).loc main_v1_0) = yF m c
      ∧ r.2.mem ((c : Thread nD τ).loc main_v1_1) = codesF m c
      ∧ r.2.mem ((c : Thread nD τ).loc main_v1_2) = scalesF m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h c).1.trans (final3 m c), (h c).2.1.trans (final4 m c), (h c).2.2.1.trans (final5 m c), (h c).2.2.2⟩)
    (Cert.ReferenceIdeal.Value.run_blocks m ρ)
end

end Cert.ReferenceIdeal.Val

end
-- ==== Proof.Same.lean ====
/- The kernel's two readings are one program: what is proved of the one's run, at any reading of the floats, holds of the other's. -/
module

public import proofs.«01_k».proof.Defs
public import proofs.«01_k».proof.Proof.Gen.Kernel.Frame
public import proofs.«01_k».proof.Proof.Run

@[expose] public section

set_option maxRecDepth 65536

noncomputable section

namespace Cert.Same

open Idealize.ShloMosaic Idealize.ShloMosaic.TcCoe Idealize.SL.Sem

local instance : Cert.Kernel.Facts := Cert.Kernel.Gen.facts
local instance : Cert.KernelIdeal.Facts := Cert.KernelIdeal.Gen.facts

variable {F : FTy → Type} [FloatOps F]

/-- The two bodies are the same program, statement by statement. -/
theorem body_eq : (Cert.Kernel.cc0__body (F := F)) = (Cert.KernelIdeal.cc0__body (F := F)) := by
  with_unfolding_all rfl

/-- So are the tables of the kernels' bodies -/
theorem kernels_eq : (Cert.Kernel.defs₀ (F := F)) = (Cert.KernelIdeal.defs₀ (F := F)) := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l a
  obtain ⟨n, h⟩ := l
  cases n with
  | zero =>
    obtain ⟨t, s⟩ := a
    exact congrFun (congrFun (congrFun (congrFun (congrFun (congrFun (congrFun (congrFun (congrFun (congrFun (congrFun (congrFun (congrFun
      (congrFun (congrFun body_eq _) _) _) _) _) _) _) _) _) _) _) _) _) _) _
  | succ n => exact absurd h (Nat.not_lt.2 (Nat.le_add_left _ _))

/-- and the tables of everything the programs call. -/
theorem defs_eq : (Cert.Kernel.defs (F := F)) = (Cert.KernelIdeal.defs (F := F)) := by
  unfold Cert.Kernel.defs Cert.KernelIdeal.defs
  rw [kernels_eq]
  rfl

/-- The kernel on machine words runs to its end, its arguments unchanged and every semaphore at zero. -/
theorem frame : Cert.quiescent_Kernel := fun m g _ => by
  rw [defs_eq]
  exact Cert.KernelIdeal.Val.frame m g

end Cert.Same

end
-- ==== Proof.lean ====
/- The certificate's assembly. -/
module

public import proofs.«01_k».proof.Defs
public import proofs.«01_k».proof.Proof.Gen.Kernel.Frame
public import proofs.«01_k».proof.Proof.Gen.KernelIdeal.Frame
public import proofs.«01_k».proof.Proof.Gen.KernelIdeal.Skeleton
public import proofs.«01_k».proof.Proof.Gen.ReferenceIdeal.Value
public import proofs.«01_k».proof.Proof.KernelArrays
public import proofs.«01_k».proof.Proof.ReferenceValue
public import proofs.«01_k».proof.Proof.Same

@[expose] public section

set_option maxRecDepth 65536

open Idealize.ShloMosaic Idealize.ShloMosaic.TcCoe Idealize.SL.Sem

namespace Cert.Proof

instance : Cert.Kernel.Facts := Cert.Kernel.Gen.facts
instance : Cert.KernelIdeal.Facts := Cert.KernelIdeal.Gen.facts
instance : Cert.ReferenceIdeal.Facts := Cert.ReferenceIdeal.Gen.facts

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- From equal activations the two programs hold the same rows of channels, -/
theorem xArg_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Val.mx (Cert.ReferenceIdeal.Val.xArg m' c) = Cert.KernelIdeal.Val.mx (Cert.KernelIdeal.Val.xArg m c) := by
  unfold Cert.ReferenceIdeal.Val.xArg Cert.KernelIdeal.Val.xArg
  rw [show m' ((c : Thread Cert.ReferenceIdeal.nD Cert.ReferenceIdeal.τ).loc Cert.ReferenceIdeal.main_arg0) = _ from h]
  rfl
/-- so they leave the same codes -/
theorem codes_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Val.codesF m' c = Cert.KernelIdeal.Val.codesF (Cert.KernelIdeal.Val.xArg m c) := by
  unfold Cert.ReferenceIdeal.Val.codesF Cert.KernelIdeal.Val.codesF
  rw [xArg_eq m m' c h]
/-- and the same scales, -/
theorem scales_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Val.scalesF m' c = Cert.KernelIdeal.Val.scalesF (Cert.KernelIdeal.Val.xArg m c) := by
  unfold Cert.ReferenceIdeal.Val.scalesF Cert.KernelIdeal.Val.scalesF
  rw [xArg_eq m m' c h]
/-- and, from equal weight codes and weight scales too, the same result. -/
theorem y_eq (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Val.yF m' c = Cert.KernelIdeal.Val.yF m c := by
  unfold Cert.ReferenceIdeal.Val.yF Cert.KernelIdeal.Val.yF
  rw [xArg_eq m m' c h0, show m' ((c : Thread Cert.ReferenceIdeal.nD Cert.ReferenceIdeal.τ).loc Cert.ReferenceIdeal.main_arg1) = _ from h1,
    show m' ((c : Thread Cert.ReferenceIdeal.nD Cert.ReferenceIdeal.τ).loc Cert.ReferenceIdeal.main_arg2) = _ from h2]
  rfl
end

/-- On extended reals, from equal arguments, the kernel and the reference end with equal results, codes and scales. -/
theorem algebraic : Cert.algebraic_KernelIdeal_ReferenceIdeal := by
  intro m g m' g' _ h
  refine ⟨Cert.KernelIdeal.Val.yF m, fun c => Cert.KernelIdeal.Val.codesF (Cert.KernelIdeal.Val.xArg m c), fun c => Cert.KernelIdeal.Val.scalesF (Cert.KernelIdeal.Val.xArg m c),
    Cert.KernelIdeal.Val.run m g, ?_⟩
  refine (θ_run Cert.ReferenceIdeal.defs _ _).mono (fun r hr c => ?_) (Cert.ReferenceIdeal.Val.run m' g')
  obtain ⟨a, b, d, e⟩ := hr c
  obtain ⟨h0, h1, h2⟩ := h c
  exact ⟨a.trans (y_eq m m' c h0 h1 h2), b.trans (codes_eq m m' c h0), d.trans (scales_eq m m' c h0), e⟩

/-- Every claim of the certificate: the three programs run to their ends with the arguments unchanged, the kernel's reading on
    extended reals is the kernel's own program, and it ends with the reference's results. -/
theorem claim : Cert.Claim :=
  ⟨Cert.Kernel.Gen.facts, Cert.KernelIdeal.Gen.facts, Cert.ReferenceIdeal.Gen.facts,
    Cert.Same.frame,
    fun m ρ _ => Cert.KernelIdeal.Val.frame m ρ,
    fun m ρ _ => Cert.ReferenceIdeal.Gen.frame m ρ,
    trivial, algebraic⟩

end Cert.Proof
